-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bounded_untied [hPre_finite_bounded_untied : Cert.Pre_finite_bounded_untied.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bounded_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_bounded_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_bounded_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite_bounded_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite_bounded_untied.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bounded_untied [hPre_finite_bounded_untied : Cert.Pre_finite_bounded_untied.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bounded_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_bounded_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_bounded_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite_bounded_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite_bounded_untied.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_bounded_untied [hKernelIdeal : Cert.KernelIdeal.Facts] [hPre_finite_bounded_untied : Cert.Pre_finite_bounded_untied.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bounded_untied m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_bounded_untied [hReferenceIdeal : Cert.ReferenceIdeal.Facts] [hPre_finite_bounded_untied : Cert.Pre_finite_bounded_untied.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bounded_untied m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "cls_pad" .f32 0xC2C80000#32 ⊥

def algebraic_KernelIdeal_ReferenceIdeal_pre_finite_bounded_untied [hKernelIdeal : Cert.KernelIdeal.Facts] [hReferenceIdeal : Cert.ReferenceIdeal.Facts] [hPre_finite_bounded_untied : Cert.Pre_finite_bounded_untied.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bounded_untied m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v229) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_bounded_untied : Cert.Pre_finite_bounded_untied.Facts),
    quiescent_Kernel (hKernel := hKernel)
    ∧ quiescent_KernelIdeal (hKernelIdeal := hKernelIdeal)
    ∧ quiescent_KernelIdeal_pre_finite_bounded_untied (hKernelIdeal := hKernelIdeal) (hPre_finite_bounded_untied := hPre_finite_bounded_untied)
    ∧ quiescent_ReferenceIdeal (hReferenceIdeal := hReferenceIdeal)
    ∧ quiescent_ReferenceIdeal_pre_finite_bounded_untied (hReferenceIdeal := hReferenceIdeal) (hPre_finite_bounded_untied := hPre_finite_bounded_untied)
    ∧ preserves_Kernel_KernelIdeal
    ∧ algebraic_KernelIdeal_ReferenceIdeal_pre_finite_bounded_untied (hKernelIdeal := hKernelIdeal) (hReferenceIdeal := hReferenceIdeal) (hPre_finite_bounded_untied := hPre_finite_bounded_untied)
-- ==== Pre_finite_bounded_untied.lean ====
abbrev S20000x80 : Shape := ⟨2, ![20000, 80]⟩
abbrev S20000x4x16 : Shape := ⟨3, ![20000, 4, 16]⟩
abbrev S20000x4 : Shape := ⟨2, ![20000, 4]⟩
abbrev S100x4 : Shape := ⟨2, ![100, 4]⟩
abbrev S100 : Shape := ⟨1, ![100]⟩
abbrev S20000x2 : Shape := ⟨2, ![20000, 2]⟩
abbrev S_ : Shape := ⟨0, ![]⟩
abbrev S100x2 : Shape := ⟨2, ![100, 2]⟩
abbrev S20000x1x2 : Shape := ⟨3, ![20000, 1, 2]⟩
abbrev S1x100x2 : Shape := ⟨3, ![1, 100, 2]⟩
abbrev S20000x100x2 : Shape := ⟨3, ![20000, 100, 2]⟩
abbrev S20000x100 : Shape := ⟨2, ![20000, 100]⟩
abbrev S100x20000 : Shape := ⟨2, ![100, 20000]⟩
abbrev S100x10 : Shape := ⟨2, ![100, 10]⟩
abbrev S100x9 : Shape := ⟨2, ![100, 9]⟩

class Facts : Prop where
  slices_S20000x4_S20000x2_0_0 : S20000x4.Slices ![0, 0] S20000x2
  slices_S20000x4_S20000x2_0_2 : S20000x4.Slices ![0, 2] S20000x2
  bcast_S_S20000x2 : S_.BroadcastsInDim S20000x2 (![] : Fin 0 → Fin S20000x2.rank)
  slices_S100x4_S100x2_0_0 : S100x4.Slices ![0, 0] S100x2
  slices_S100x4_S100x2_0_2 : S100x4.Slices ![0, 2] S100x2
  bcast_S_S100x2 : S_.BroadcastsInDim S100x2 (![] : Fin 0 → Fin S100x2.rank)
  bcast_S20000x2_S20000x1x2_0_2 : S20000x2.BroadcastsInDim S20000x1x2 (![0, 2] : Fin 2 → Fin S20000x1x2.rank)
  bcast_S100x2_S1x100x2_1_2 : S100x2.BroadcastsInDim S1x100x2 (![1, 2] : Fin 2 → Fin S1x100x2.rank)
  bcast_S20000x1x2_S20000x100x2_0_1_2 : S20000x1x2.BroadcastsInDim S20000x100x2 (![0, 1, 2] : Fin 3 → Fin S20000x100x2.rank)
  bcast_S1x100x2_S20000x100x2_0_1_2 : S1x100x2.BroadcastsInDim S20000x100x2 (![0, 1, 2] : Fin 3 → Fin S20000x100x2.rank)
  reducesTo_S20000x100x2_S20000x100_d2 : S20000x100x2.ReducesTo [2] S20000x100
  h_S_ : 0 < S_.numel
  transposes_S20000x100_S100x20000_1_0 : S20000x100.Transposes [1, 0] S100x20000
  sliceFits_S100x20000_S100x10 : S100x20000.Slices (fun _ => 0) S100x10
  bcast_S_S20000x80 : S_.BroadcastsInDim S20000x80 (![] : Fin 0 → Fin S20000x80.rank)
  bcast_S_S20000x4x16 : S_.BroadcastsInDim S20000x4x16 (![] : Fin 0 → Fin S20000x4x16.rank)
  bcast_S_S20000x4 : S_.BroadcastsInDim S20000x4 (![] : Fin 0 → Fin S20000x4.rank)
  bcast_S_S100x4 : S_.BroadcastsInDim S100x4 (![] : Fin 0 → Fin S100x4.rank)
  slices_S100x10_S100x9_0_0 : S100x10.Slices ![0, 0] S100x9
  slices_S100x10_S100x9_0_1 : S100x10.Slices ![0, 1] S100x9

variable [Facts]

def fn_norm {F : FTy → Type} [FloatOps F] (arg0 : FVec F S20000x100x2 .f32) : FVec F S20000x100 .f32 :=
  let v0 : FVec F S20000x100x2 .f32 := mulf arg0 arg0
  let cst : FVec F S_ .f32 := constant S_ .f32 0x00000000#32
  let v1 : FVec F S20000x100 .f32 := (fun x v => Host.reduceAdd x v reducesTo_S20000x100x2_S20000x100_d2 h_S_) v0 cst
  let v2 : FVec F S20000x100 .f32 := Host.sqrt v1
  v2

def fn_part1 {F : FTy → Type} [FloatOps F] (main_arg1 : FVec F S20000x4x16 .f32) (main_arg2 : FVec F S20000x4 .f32) (main_arg3 : FVec F S100x4 .f32) (main_values : FVec F S100x10 .f32) (main_v18 : FVec F S20000x80 .f32) (main_cst_1 : FVec F S_ .f32) : IVec S20000x80 1 × IVec S20000x4x16 1 × IVec S20000x4 1 × IVec S100x4 1 × IVec S100x9 1 :=
  let main_v19 : FVec F S20000x80 .f32 := broadcastInDim S20000x80 ![] bcast_S_S20000x80 main_cst_1
  let main_v20 : IVec S20000x80 1 := cmpf .olt main_v18 main_v19
  let main_v21 : FVec F S20000x4x16 .f32 := Host.absf main_arg1
  let main_cst_2 : FVec F S_ .f32 := constant S_ .f32 0x7F800000#32
  let main_v22 : FVec F S20000x4x16 .f32 := broadcastInDim S20000x4x16 ![] bcast_S_S20000x4x16 main_cst_2
  let main_v23 : IVec S20000x4x16 1 := cmpf .olt main_v21 main_v22
  let main_v24 : FVec F S20000x4 .f32 := Host.absf main_arg2
  let main_cst_3 : FVec F S_ .f32 := constant S_ .f32 0x48927C00#32
  let main_v25 : FVec F S20000x4 .f32 := broadcastInDim S20000x4 ![] bcast_S_S20000x4 main_cst_3
  let main_v26 : IVec S20000x4 1 := cmpf .ole main_v24 main_v25
  let main_v27 : FVec F S100x4 .f32 := Host.absf main_arg3
  let main_cst_4 : FVec F S_ .f32 := constant S_ .f32 0x48927C00#32
  let main_v28 : FVec F S100x4 .f32 := broadcastInDim S100x4 ![] bcast_S_S100x4 main_cst_4
  let main_v29 : IVec S100x4 1 := cmpf .ole main_v27 main_v28
  let main_v30 : FVec F S100x9 .f32 := (extractStridedSlice S100x9 ![0, 0] · slices_S100x10_S100x9_0_0) main_values
  let main_v31 : FVec F S100x9 .f32 := (extractStridedSlice S100x9 ![0, 1] · slices_S100x10_S100x9_0_1) main_values
  let main_v32 : IVec S100x9 1 := cmpf .ogt main_v30 main_v31
  (main_v20, main_v23, main_v26, main_v29, main_v32)

def fn {F : FTy → Type} [FloatOps F] (main_arg0 : FVec F S20000x80 .f32) (main_arg1 : FVec F S20000x4x16 .f32) (main_arg2 : FVec F S20000x4 .f32) (main_arg3 : FVec F S100x4 .f32) (main_arg4 : IVec S100 32) : IVec S20000x80 1 × IVec S20000x4x16 1 × IVec S20000x4 1 × IVec S100x4 1 × IVec S100x9 1 :=
  let main_v0 : FVec F S20000x2 .f32 := (extractStridedSlice S20000x2 ![0, 0] · slices_S20000x4_S20000x2_0_0) main_arg2
  let main_v1 : FVec F S20000x2 .f32 := (extractStridedSlice S20000x2 ![0, 2] · slices_S20000x4_S20000x2_0_2) main_arg2
  let main_v2 : FVec F S20000x2 .f32 := addf main_v0 main_v1
  let main_cst : FVec F S_ .f32 := constant S_ .f32 0x40000000#32
  let main_v3 : FVec F S20000x2 .f32 := broadcastInDim S20000x2 ![] bcast_S_S20000x2 main_cst
  let main_v4 : FVec F S20000x2 .f32 := Host.divf main_v2 main_v3
  let main_v5 : FVec F S100x2 .f32 := (extractStridedSlice S100x2 ![0, 0] · slices_S100x4_S100x2_0_0) main_arg3
  let main_v6 : FVec F S100x2 .f32 := (extractStridedSlice S100x2 ![0, 2] · slices_S100x4_S100x2_0_2) main_arg3
  let main_v7 : FVec F S100x2 .f32 := addf main_v5 main_v6
  let main_cst_0 : FVec F S_ .f32 := constant S_ .f32 0x40000000#32
  let main_v8 : FVec F S100x2 .f32 := broadcastInDim S100x2 ![] bcast_S_S100x2 main_cst_0
  let main_v9 : FVec F S100x2 .f32 := Host.divf main_v7 main_v8
  let main_v10 : FVec F S20000x1x2 .f32 := broadcastInDim S20000x1x2 ![0, 2] bcast_S20000x2_S20000x1x2_0_2 main_v4
  let main_v11 : FVec F S1x100x2 .f32 := broadcastInDim S1x100x2 ![1, 2] bcast_S100x2_S1x100x2_1_2 main_v9
  let main_v12 : FVec F S20000x100x2 .f32 := broadcastInDim S20000x100x2 ![0, 1, 2] bcast_S20000x1x2_S20000x100x2_0_1_2 main_v10
  let main_v13 : FVec F S20000x100x2 .f32 := broadcastInDim S20000x100x2 ![0, 1, 2] bcast_S1x100x2_S20000x100x2_0_1_2 main_v11
  let main_v14 : FVec F S20000x100x2 .f32 := subf main_v12 main_v13
  let main_v15 : FVec F S20000x100 .f32 := fn_norm (F := F) main_v14
  let main_v16 : FVec F S100x20000 .f32 := (transpose S100x20000 [1, 0] · transposes_S20000x100_S100x20000_1_0) main_v15
  let main_v17 : FVec F S100x20000 .f32 := Host.negf main_v16
  let main_values : FVec F S100x10 .f32 := (fun x => (Host.topK S100x10 1 (FloatOps.cmpfTotal .gt) x sliceFits_S100x20000_S100x10).1) main_v17
  let main_indices : IVec S100x10 32 := (fun x => (Host.topK S100x10 1 (FloatOps.cmpfTotal .gt) x sliceFits_S100x20000_S100x10).2) main_v17
  let main_v18 : FVec F S20000x80 .f32 := Host.absf main_arg0
  let main_cst_1 : FVec F S_ .f32 := constant S_ .f32 0x7F800000#32
  fn_part1 (F := F) main_arg1 main_arg2 main_arg3 main_values main_v18 main_cst_1
-- ==== Kernel.lean ====
abbrev S20000x80 : Shape := ⟨2, ![20000, 80]⟩
abbrev S20000x4x16 : Shape := ⟨3, ![20000, 4, 16]⟩
abbrev S20000x4 : Shape := ⟨2, ![20000, 4]⟩
abbrev S100x4 : Shape := ⟨2, ![100, 4]⟩
abbrev S100 : Shape := ⟨1, ![100]⟩
abbrev S4x20000 : Shape := ⟨2, ![4, 20000]⟩
abbrev S_ : Shape := ⟨0, ![]⟩
abbrev S8x20480 : Shape := ⟨2, ![8, 20480]⟩
abbrev S80x20000 : Shape := ⟨2, ![80, 20000]⟩
abbrev S80x20480 : Shape := ⟨2, ![80, 20480]⟩
abbrev S20000x64 : Shape := ⟨2, ![20000, 64]⟩
abbrev S64x20000 : Shape := ⟨2, ![64, 20000]⟩
abbrev S64x20480 : Shape := ⟨2, ![64, 20480]⟩
abbrev S104x128 : Shape := ⟨2, ![104, 128]⟩
abbrev S1 : Shape := ⟨1, ![1]⟩
abbrev S2 : Shape := ⟨1, ![2]⟩
abbrev S8x128 : Shape := ⟨2, ![8, 128]⟩
abbrev S104x20480 : Shape := ⟨2, ![104, 20480]⟩
abbrev S104x1 : Shape := ⟨2, ![104, 1]⟩
abbrev S1x2048 : Shape := ⟨2, ![1, 2048]⟩
abbrev S104x2048 : Shape := ⟨2, ![104, 2048]⟩
abbrev S104 : Shape := ⟨1, ![104]⟩
abbrev S80x1 : Shape := ⟨2, ![80, 1]⟩
abbrev S16x1 : Shape := ⟨2, ![16, 1]⟩
abbrev S104x5 : Shape := ⟨2, ![104, 5]⟩
abbrev S2048 : Shape := ⟨1, ![2048]⟩
abbrev S5x2048 : Shape := ⟨2, ![5, 2048]⟩
abbrev S1x1x2048 : Shape := ⟨3, ![1, 1, 2048]⟩
abbrev S1x1x1 : Shape := ⟨3, ![1, 1, 1]⟩
abbrev S80x2048 : Shape := ⟨2, ![80, 2048]⟩
abbrev S1x80x2048 : Shape := ⟨3, ![1, 80, 2048]⟩
abbrev S64x2048 : Shape := ⟨2, ![64, 2048]⟩
abbrev S16x2048 : Shape := ⟨2, ![16, 2048]⟩

abbrev nBuf : Space → Nat
  | .hbm => 34
  | .vmem => 7
  | .smem => 0
  | _ => 0

abbrev bufTy : (tb : Table) → Fin (tcTables nBuf tb) → BufTy
  | .hbm, ⟨0, _⟩ => ⟨S20000x80, .f32⟩
  | .hbm, ⟨1, _⟩ => ⟨S20000x4x16, .f32⟩
  | .hbm, ⟨2, _⟩ => ⟨S20000x4, .f32⟩
  | .hbm, ⟨3, _⟩ => ⟨S100x4, .f32⟩
  | .hbm, ⟨4, _⟩ => ⟨S100, .i32⟩
  | .hbm, ⟨5, _⟩ => ⟨S4x20000, .f32⟩
  | .hbm, ⟨6, _⟩ => ⟨S_, .f32⟩
  | .hbm, ⟨7, _⟩ => ⟨S_, .f32⟩
  | .hbm, ⟨8, _⟩ => ⟨S8x20480, .f32⟩
  | .hbm, ⟨9, _⟩ => ⟨S80x20000, .f32⟩
  | .hbm, ⟨10, _⟩ => ⟨S_, .f32⟩
  | .hbm, ⟨11, _⟩ => ⟨S_, .f32⟩
  | .hbm, ⟨12, _⟩ => ⟨S80x20480, .f32⟩
  | .hbm, ⟨13, _⟩ => ⟨S20000x64, .f32⟩
  | .hbm, ⟨14, _⟩ => ⟨S64x20000, .f32⟩
  | .hbm, ⟨15, _⟩ => ⟨S_, .i32⟩
  | .hbm, ⟨16, _⟩ => ⟨S_, .f32⟩
  | .hbm, ⟨17, _⟩ => ⟨S64x20480, .f32⟩
  | .hbm, ⟨18, _⟩ => ⟨S_, .f32⟩
  | .hbm, ⟨19, _⟩ => ⟨S104x128, .f32⟩
  | .hbm, ⟨20, _⟩ => ⟨S_, .i32⟩
  | .hbm, ⟨21, _⟩ => ⟨S1, .i32⟩
  | .hbm, ⟨22, _⟩ => ⟨S_, .i32⟩
  | .hbm, ⟨23, _⟩ => ⟨S1, .i32⟩
  | .hbm, ⟨24, _⟩ => ⟨S2, .i32⟩
  | .hbm, ⟨25, _⟩ => ⟨S104x128, .f32⟩
  | .hbm, ⟨26, _⟩ => ⟨S100, .f32⟩
  | .hbm, ⟨27, _⟩ => ⟨S_, .i32⟩
  | .hbm, ⟨28, _⟩ => ⟨S1, .i32⟩
  | .hbm, ⟨29, _⟩ => ⟨S_, .i32⟩
  | .hbm, ⟨30, _⟩ => ⟨S1, .i32⟩
  | .hbm, ⟨31, _⟩ => ⟨S2, .i32⟩
  | .hbm, ⟨32, _⟩ => ⟨S104x128, .f32⟩
  | .hbm, ⟨33, _⟩ => ⟨S8x128, .f32⟩
  | .local _ .vmem, ⟨0, _⟩ => ⟨S8x20480, .f32⟩
  | .local _ .vmem, ⟨1, _⟩ => ⟨S104x128, .f32⟩
  | .local _ .vmem, ⟨2, _⟩ => ⟨S80x20480, .f32⟩
  | .local _ .vmem, ⟨3, _⟩ => ⟨S64x20480, .f32⟩
  | .local _ .vmem, ⟨4, _⟩ => ⟨S8x128, .f32⟩
  | .local _ .vmem, ⟨5, _⟩ => ⟨S104x20480, .f32⟩
  | .local _ .vmem, ⟨6, _⟩ => ⟨S104x20480, .f32⟩
  | _, _ => ⟨S20000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c : Ref sig .tc := ⟨.hbm, 15, rfl⟩
abbrev main_call2_v0 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_c_3 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c10_i32 : BitVec 32 := 10#32
  let v21 : BitVec 32 := Scalar.addi c0_i32 c10_i32
  let c1_i32 : BitVec 32 := 1#32
  ⟨c0_i32, v21, c1_i32⟩
def k0_off1 (k0_t1 : Fin k0_t1_loop.trips) : Fin 2 → Nat :=
  let c0_32 : Index := 0#32
  let c0_i32 : BitVec 32 := 0#32
  let c1_i32 : BitVec 32 := 1#32
  let arg7 : BitVec 32 := Scf.iv c0_i32 c1_i32 k0_t1
  let c2048_i32 : BitVec 32 := 2048#32
  let v59 : BitVec 32 := Scalar.muli arg7 c2048_i32
  let v60 : Index := Scalar.indexCast v59
  ![0, v60.toNat]
def k0_off2 (k0_t1 : Fin k0_t1_loop.trips) : Fin 2 → Nat :=
  let c1_33 : Index := 1#32
  let c0_i32 : BitVec 32 := 0#32
  let c1_i32 : BitVec 32 := 1#32
  let arg7 : BitVec 32 := Scf.iv c0_i32 c1_i32 k0_t1
  let c2048_i32 : BitVec 32 := 2048#32
  let v59 : BitVec 32 := Scalar.muli arg7 c2048_i32
  let v63 : Index := Scalar.indexCast v59
  ![1, v63.toNat]
def k0_off3 (k0_t1 : Fin k0_t1_loop.trips) : Fin 2 → Nat :=
  let c2_34 : Index := 2#32
  let c0_i32 : BitVec 32 := 0#32
  let c1_i32 : BitVec 32 := 1#32
  let arg7 : BitVec 32 := Scf.iv c0_i32 c1_i32 k0_t1
  let c2048_i32 : BitVec 32 := 2048#32
  let v59 : BitVec 32 := Scalar.muli arg7 c2048_i32
  let v66 : Index := Scalar.indexCast v59
  ![2, v66.toNat]
def k0_off4 (k0_t1 : Fin k0_t1_loop.trips) : Fin 2 → Nat :=
  let c3_35 : Index := 3#32
  let c0_i32 : BitVec 32 := 0#32
  let c1_i32 : BitVec 32 := 1#32
  let arg7 : BitVec 32 := Scf.iv c0_i32 c1_i32 k0_t1
  let c2048_i32 : BitVec 32 := 2048#32
  let v59 : BitVec 32 := Scalar.muli arg7 c2048_i32
  let v69 : Index := Scalar.indexCast v59
  ![3, v69.toNat]
def k0_off5 (k0_t1 : Fin k0_t1_loop.trips) : Fin 2 → Nat :=
  let c0_39 : Index := 0#32
  let c0_i32 : BitVec 32 := 0#32
  let c1_i32 : BitVec 32 := 1#32
  let arg7 : BitVec 32 := Scf.iv c0_i32 c1_i32 k0_t1
  let c2048_i32_38 : BitVec 32 := 2048#32
  let v87 : BitVec 32 := Scalar.muli arg7 c2048_i32_38
  let v88 : Index := Scalar.indexCast v87
  ![0, v88.toNat]
@[reducible] def k0_t2_loop : Scf.Loop 32 :=
  let c0_i32_7 : BitVec 32 := 0#32
  let c8_i32 : BitVec 32 := 8#32
  let v23 : BitVec 32 := Scalar.addi c0_i32_7 c8_i32
  let c1_i32_8 : BitVec 32 := 1#32
  ⟨c0_i32_7, v23, c1_i32_8⟩
@[reducible] def k0_t3_loop : Scf.Loop 32 :=
  let c0_i32_33 : BitVec 32 := 0#32
  let c10_i32_34 : BitVec 32 := 10#32
  let v60 : BitVec 32 := Scalar.addi c0_i32_33 c10_i32_34
  let c1_i32_35 : BitVec 32 := 1#32
  ⟨c0_i32_33, v60, c1_i32_35⟩
def k0_off6 (k0_t3 : Fin k0_t3_loop.trips) : Fin 2 → Nat :=
  let c0_37 : Index := 0#32
  let c0_i32_33 : BitVec 32 := 0#32
  let c1_i32_35 : BitVec 32 := 1#32
  let arg9 : BitVec 32 := Scf.iv c0_i32_33 c1_i32_35 k0_t3
  let c2048_i32 : BitVec 32 := 2048#32
  let v62 : BitVec 32 := Scalar.muli arg9 c2048_i32
  let v63 : Index := Scalar.indexCast v62
  ![0, v63.toNat]
@[reducible] def k0_t4_loop : Scf.Loop 32 :=
  let c0_i32_10 : BitVec 32 := 0#32
  let c10_i32_11 : BitVec 32 := 10#32
  let v26 : BitVec 32 := Scalar.addi c0_i32_10 c10_i32_11
  let c1_i32_12 : BitVec 32 := 1#32
  ⟨c0_i32_10, v26, c1_i32_12⟩
def k0_off7 (k0_t4 : Fin k0_t4_loop.trips) : Fin 2 → Nat :=
  let c0_32 : Index := 0#32
  let c0_i32_10 : BitVec 32 := 0#32
  let c1_i32_12 : BitVec 32 := 1#32
  let arg7 : BitVec 32 := Scf.iv c0_i32_10 c1_i32_12 k0_t4
  let c2048_i32 : BitVec 32 := 2048#32
  let v59 : BitVec 32 := Scalar.muli arg7 c2048_i32
  let v60 : Index := Scalar.indexCast v59
  ![0, v60.toNat]
@[reducible] def k0_t5_loop : Scf.Loop 32 :=
  let c0_i32_24 : BitVec 32 := 0#32
  let c10_i32_25 : BitVec 32 := 10#32
  let v50 : BitVec 32 := Scalar.addi c0_i32_24 c10_i32_25
  let c1_i32_26 : BitVec 32 := 1#32
  ⟨c0_i32_24, v50, c1_i32_26⟩
def k0_off8 (k0_t5 : Fin k0_t5_loop.trips) : Fin 2 → Nat :=
  let c0_33 : Index := 0#32
  let c0_i32_24 : BitVec 32 := 0#32
  let c1_i32_26 : BitVec 32 := 1#32
  let arg7 : BitVec 32 := Scf.iv c0_i32_24 c1_i32_26 k0_t5
  let c2048_i32_32 : BitVec 32 := 2048#32
  let v60 : BitVec 32 := Scalar.muli arg7 c2048_i32_32
  let v61 : Index := Scalar.indexCast v60
  ![0, v61.toNat]
def k0_off9 (k0_t5 : Fin k0_t5_loop.trips) : Fin 2 → Nat :=
  let c1_34 : Index := 1#32
  let c0_i32_24 : BitVec 32 := 0#32
  let c1_i32_26 : BitVec 32 := 1#32
  let arg7 : BitVec 32 := Scf.iv c0_i32_24 c1_i32_26 k0_t5
  let c2048_i32_32 : BitVec 32 := 2048#32
  let v60 : BitVec 32 := Scalar.muli arg7 c2048_i32_32
  let v64 : Index := Scalar.indexCast v60
  ![1, v64.toNat]
def k0_off10 (k0_t5 : Fin k0_t5_loop.trips) : Fin 2 → Nat :=
  let c2_35 : Index := 2#32
  let c0_i32_24 : BitVec 32 := 0#32
  let c1_i32_26 : BitVec 32 := 1#32
  let arg7 : BitVec 32 := Scf.iv c0_i32_24 c1_i32_26 k0_t5
  let c2048_i32_32 : BitVec 32 := 2048#32
  let v60 : BitVec 32 := Scalar.muli arg7 c2048_i32_32
  let v67 : Index := Scalar.indexCast v60
  ![2, v67.toNat]
def k0_off11 (k0_t5 : Fin k0_t5_loop.trips) : Fin 2 → Nat :=
  let c3_36 : Index := 3#32
  let c0_i32_24 : BitVec 32 := 0#32
  let c1_i32_26 : BitVec 32 := 1#32
  let arg7 : BitVec 32 := Scf.iv c0_i32_24 c1_i32_26 k0_t5
  let c2048_i32_32 : BitVec 32 := 2048#32
  let v60 : BitVec 32 := Scalar.muli arg7 c2048_i32_32
  let v70 : Index := Scalar.indexCast v60
  ![3, v70.toNat]
def k0_off12 (k0_t5 : Fin k0_t5_loop.trips) : Fin 2 → Nat :=
  let c0_39 : Index := 0#32
  let c0_i32_24 : BitVec 32 := 0#32
  let c1_i32_26 : BitVec 32 := 1#32
  let arg7 : BitVec 32 := Scf.iv c0_i32_24 c1_i32_26 k0_t5
  let c2048_i32 : BitVec 32 := 2048#32
  let v59 : BitVec 32 := Scalar.muli arg7 c2048_i32
  let v79 : Index := Scalar.indexCast v59
  ![0, v79.toNat]
def k0_off13 (k0_t5 : Fin k0_t5_loop.trips) : Fin 2 → Nat :=
  let c0_47 : Index := 0#32
  let c0_i32_24 : BitVec 32 := 0#32
  let c1_i32_26 : BitVec 32 := 1#32
  let arg7 : BitVec 32 := Scf.iv c0_i32_24 c1_i32_26 k0_t5
  let c2048_i32 : BitVec 32 := 2048#32
  let v59 : BitVec 32 := Scalar.muli arg7 c2048_i32
  let v136 : Index := Scalar.indexCast v59
  ![0, v136.toNat]
def k0_off14 (k0_t5 : Fin k0_t5_loop.trips) : Fin 2 → Nat :=
  let c0_55 : Index := 0#32
  let c0_i32_24 : BitVec 32 := 0#32
  let c1_i32_26 : BitVec 32 := 1#32
  let arg7 : BitVec 32 := Scf.iv c0_i32_24 c1_i32_26 k0_t5
  let c2048_i32 : BitVec 32 := 2048#32
  let v59 : BitVec 32 := Scalar.muli arg7 c2048_i32
  let v169 : Index := Scalar.indexCast v59
  ![0, v169.toNat]
abbrev stage0_0 : Fin 1 → Memref sig .tc .vmem S8x20480 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S104x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x20480 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x20480 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "cls_pad" => some ⊥
  | _ => none
-- ==== ReferenceIdeal.lean ====
abbrev S20000x80 : Shape := ⟨2, ![20000, 80]⟩
abbrev S20000x4x16 : Shape := ⟨3, ![20000, 4, 16]⟩
abbrev S20000x4 : Shape := ⟨2, ![20000, 4]⟩
abbrev S100x4 : Shape := ⟨2, ![100, 4]⟩
abbrev S100 : Shape := ⟨1, ![100]⟩
abbrev S20000x1 : Shape := ⟨2, ![20000, 1]⟩
abbrev S20000 : Shape := ⟨1, ![20000]⟩
abbrev S100x1 : Shape := ⟨2, ![100, 1]⟩
abbrev S20000x2 : Shape := ⟨2, ![20000, 2]⟩
abbrev S20000x1x2 : Shape := ⟨3, ![20000, 1, 2]⟩
abbrev S100x2 : Shape := ⟨2, ![100, 2]⟩
abbrev S1x100x2 : Shape := ⟨3, ![1, 100, 2]⟩
abbrev S20000x100x2 : Shape := ⟨3, ![20000, 100, 2]⟩
abbrev S_ : Shape := ⟨0, ![]⟩
abbrev S20000x100x1 : Shape := ⟨3, ![20000, 100, 1]⟩
abbrev S20000x100 : Shape := ⟨2, ![20000, 100]⟩
abbrev S1x100 : Shape := ⟨2, ![1, 100]⟩
abbrev S100x20000 : Shape := ⟨2, ![100, 20000]⟩
abbrev S100x9 : Shape := ⟨2, ![100, 9]⟩
abbrev S100x9x1 : Shape := ⟨3, ![100, 9, 1]⟩
abbrev S1 : Shape := ⟨1, ![1]⟩
abbrev S1x1x1 : Shape := ⟨3, ![1, 1, 1]⟩
abbrev S20000x1x1 : Shape := ⟨3, ![20000, 1, 1]⟩
abbrev S1x80 : Shape := ⟨2, ![1, 80]⟩
abbrev S20000x4x1 : Shape := ⟨3, ![20000, 4, 1]⟩
abbrev S20000x4x1x1 : Shape := ⟨4, ![20000, 4, 1, 1]⟩
abbrev S1x1x1x1 : Shape := ⟨4, ![1, 1, 1, 1]⟩
abbrev S8x128 : Shape := ⟨2, ![8, 128]⟩

abbrev nBuf : Space → Nat
  | .hbm => 433
  | .vmem => 0
  | .smem => 0
  | _ => 0

abbrev hbmTy0_0 (i : Nat) : BufTy := match i % 128 with
  | 0 => ⟨S20000x80, .f32⟩
  | 1 => ⟨S20000x4x16, .f32⟩
  | 2 => ⟨S20000x4, .f32⟩
  | 3 => ⟨S100x4, .f32⟩
  | 4 => ⟨S100, .i32⟩
  | 5 => ⟨S20000x1, .f32⟩
  | 6 => ⟨S20000, .f32⟩
  | 7 => ⟨S20000x1, .f32⟩
  | 8 => ⟨S20000, .f32⟩
  | 9 => ⟨S20000, .f32⟩
  | 10 => ⟨S20000x1, .f32⟩
  | 11 => ⟨S20000, .f32⟩
  | 12 => ⟨S20000x1, .f32⟩
  | 13 => ⟨S20000, .f32⟩
  | 14 => ⟨S20000, .f32⟩
  | 15 => ⟨S20000, .f32⟩
  | 16 => ⟨S100x1, .f32⟩
  | 17 => ⟨S100, .f32⟩
  | 18 => ⟨S100x1, .f32⟩
  | 19 => ⟨S100, .f32⟩
  | 20 => ⟨S100, .f32⟩
  | 21 => ⟨S100x1, .f32⟩
  | 22 => ⟨S100, .f32⟩
  | 23 => ⟨S100x1, .f32⟩
  | 24 => ⟨S100, .f32⟩
  | 25 => ⟨S100, .f32⟩
  | 26 => ⟨S100, .f32⟩
  | 27 => ⟨S20000x2, .f32⟩
  | 28 => ⟨S20000x1x2, .f32⟩
  | 29 => ⟨S100x2, .f32⟩
  | 30 => ⟨S1x100x2, .f32⟩
  | 31 => ⟨S20000x100x2, .f32⟩
  | 32 => ⟨S20000x100x2, .f32⟩
  | 33 => ⟨S20000x100x2, .f32⟩
  | 34 => ⟨S20000x2, .f32⟩
  | 35 => ⟨S20000x1x2, .f32⟩
  | 36 => ⟨S100x2, .f32⟩
  | 37 => ⟨S1x100x2, .f32⟩
  | 38 => ⟨S20000x100x2, .f32⟩
  | 39 => ⟨S20000x100x2, .f32⟩
  | 40 => ⟨S20000x100x2, .f32⟩
  | 41 => ⟨S20000x100x2, .f32⟩
  | 42 => ⟨S_, .f32⟩
  | 43 => ⟨S_, .f32⟩
  | 44 => ⟨S20000x100x2, .f32⟩
  | 45 => ⟨S20000x100x2, .f32⟩
  | 46 => ⟨S20000x100x1, .f32⟩
  | 47 => ⟨S20000x100, .f32⟩
  | 48 => ⟨S20000x100x1, .f32⟩
  | 49 => ⟨S20000x100, .f32⟩
  | 50 => ⟨S20000x100, .f32⟩
  | 51 => ⟨S20000x1, .f32⟩
  | 52 => ⟨S1x100, .f32⟩
  | 53 => ⟨S20000x100, .f32⟩
  | 54 => ⟨S20000x100, .f32⟩
  | 55 => ⟨S20000x100, .f32⟩
  | 56 => ⟨S20000x100, .f32⟩
  | 57 => ⟨S_, .f32⟩
  | 58 => ⟨S20000x100, .f32⟩
  | 59 => ⟨S20000x100, .f32⟩
  | 60 => ⟨S20000x100, .f32⟩
  | 61 => ⟨S20000x2, .f32⟩
  | 62 => ⟨S20000x2, .f32⟩
  | 63 => ⟨S20000x2, .f32⟩
  | 64 => ⟨S_, .f32⟩
  | 65 => ⟨S20000x2, .f32⟩
  | 66 => ⟨S20000x2, .f32⟩
  | 67 => ⟨S100x2, .f32⟩
  | 68 => ⟨S100x2, .f32⟩
  | 69 => ⟨S100x2, .f32⟩
  | 70 => ⟨S_, .f32⟩
  | 71 => ⟨S100x2, .f32⟩
  | 72 => ⟨S100x2, .f32⟩
  | 73 => ⟨S20000x1x2, .f32⟩
  | 74 => ⟨S1x100x2, .f32⟩
  | 75 => ⟨S20000x100x2, .f32⟩
  | 76 => ⟨S20000x100x2, .f32⟩
  | 77 => ⟨S20000x100x2, .f32⟩
  | 78 => ⟨S20000x100x2, .f32⟩
  | 79 => ⟨S_, .f32⟩
  | 80 => ⟨S20000x100, .f32⟩
  | 81 => ⟨S20000x100, .f32⟩
  | 82 => ⟨S100x20000, .f32⟩
  | 83 => ⟨S100x20000, .f32⟩
  | 84 => ⟨S100x9, .f32⟩
  | 85 => ⟨S100x9, .i32⟩
  | 86 => ⟨S100x20000, .f32⟩
  | 87 => ⟨S_, .i32⟩
  | 88 => ⟨S100x9, .i32⟩
  | 89 => ⟨S100x9, .i1⟩
  | 90 => ⟨S_, .i32⟩
  | 91 => ⟨S100x9, .i32⟩
  | 92 => ⟨S100x9, .i32⟩
  | 93 => ⟨S100x9, .i32⟩
  | 94 => ⟨S100x9x1, .i32⟩
  | 95 => ⟨S1, .i32⟩
  | 96 => ⟨S_, .i32⟩
  | 97 => ⟨S100x9x1, .i32⟩
  | 98 => ⟨S100x9x1, .i1⟩
  | 99 => ⟨S1x1x1, .i32⟩
  | 100 => ⟨S100x9x1, .i32⟩
  | 101 => ⟨S100x9x1, .i1⟩
  | 102 => ⟨S100x9x1, .i1⟩
  | 103 => ⟨S_, .i1⟩
  | 104 => ⟨S100x9, .i1⟩
  | 105 => ⟨S100x9, .f32⟩
  | 106 => ⟨S_, .f32⟩
  | 107 => ⟨S100x9, .f32⟩
  | 108 => ⟨S100x9, .f32⟩
  | 109 => ⟨S_, .f32⟩
  | 110 => ⟨S100, .f32⟩
  | 111 => ⟨S_, .f32⟩
  | 112 => ⟨S100, .f32⟩
  | 113 => ⟨S100, .f32⟩
  | 114 => ⟨S_, .i32⟩
  | 115 => ⟨S_, .f32⟩
  | 116 => ⟨S100, .f32⟩
  | 117 => ⟨S100x1, .f32⟩
  | 118 => ⟨S_, .f32⟩
  | 119 => ⟨S100x1, .f32⟩
  | 120 => ⟨S100x1, .f32⟩
  | 121 => ⟨S100x9, .f32⟩
  | 122 => ⟨S100x9, .f32⟩
  | 123 => ⟨S100x9, .f32⟩
  | 124 => ⟨S_, .f32⟩
  | 125 => ⟨S_, .f32⟩
  | 126 => ⟨S_, .f32⟩
  | 127 => ⟨S_, .f32⟩
  | _ => ⟨S20000x80, .f32⟩

abbrev hbmTy0_1 (i : Nat) : BufTy := match i % 128 with
  | 0 => ⟨S100, .f32⟩
  | 1 => ⟨S100, .f32⟩
  | 2 => ⟨S100, .f32⟩
  | 3 => ⟨S_, .f32⟩
  | 4 => ⟨S_, .i1⟩
  | 5 => ⟨S_, .f32⟩
  | 6 => ⟨S_, .f32⟩
  | 7 => ⟨S100, .f32⟩
  | 8 => ⟨S100, .f32⟩
  | 9 => ⟨S100, .f32⟩
  | 10 => ⟨S100, .f32⟩
  | 11 => ⟨S1x100, .f32⟩
  | 12 => ⟨S20000x100, .f32⟩
  | 13 => ⟨S20000x100, .i1⟩
  | 14 => ⟨S20000x1, .f32⟩
  | 15 => ⟨S20000, .f32⟩
  | 16 => ⟨S20000x1, .f32⟩
  | 17 => ⟨S20000, .f32⟩
  | 18 => ⟨S20000x1, .f32⟩
  | 19 => ⟨S100x1, .f32⟩
  | 20 => ⟨S100, .f32⟩
  | 21 => ⟨S1x100, .f32⟩
  | 22 => ⟨S20000x100, .f32⟩
  | 23 => ⟨S20000x100, .f32⟩
  | 24 => ⟨S20000x100, .i1⟩
  | 25 => ⟨S20000x1, .f32⟩
  | 26 => ⟨S100x1, .f32⟩
  | 27 => ⟨S100, .f32⟩
  | 28 => ⟨S1x100, .f32⟩
  | 29 => ⟨S20000x100, .f32⟩
  | 30 => ⟨S20000x100, .f32⟩
  | 31 => ⟨S20000x100, .i1⟩
  | 32 => ⟨S20000x100, .i1⟩
  | 33 => ⟨S20000x1, .f32⟩
  | 34 => ⟨S100x1, .f32⟩
  | 35 => ⟨S100, .f32⟩
  | 36 => ⟨S1x100, .f32⟩
  | 37 => ⟨S20000x100, .f32⟩
  | 38 => ⟨S20000x100, .f32⟩
  | 39 => ⟨S20000x100, .i1⟩
  | 40 => ⟨S20000x100, .i1⟩
  | 41 => ⟨S20000x1, .f32⟩
  | 42 => ⟨S100x1, .f32⟩
  | 43 => ⟨S100, .f32⟩
  | 44 => ⟨S1x100, .f32⟩
  | 45 => ⟨S20000x100, .f32⟩
  | 46 => ⟨S20000x100, .f32⟩
  | 47 => ⟨S20000x100, .i1⟩
  | 48 => ⟨S20000x100, .i1⟩
  | 49 => ⟨S20000x100, .i1⟩
  | 50 => ⟨S100, .i32⟩
  | 51 => ⟨S1x100, .i32⟩
  | 52 => ⟨S_, .i32⟩
  | 53 => ⟨S_, .i32⟩
  | 54 => ⟨S20000x100, .i32⟩
  | 55 => ⟨S20000x100, .i32⟩
  | 56 => ⟨S20000x100, .i32⟩
  | 57 => ⟨S_, .i32⟩
  | 58 => ⟨S20000, .i32⟩
  | 59 => ⟨S_, .i32⟩
  | 60 => ⟨S_, .i32⟩
  | 61 => ⟨S_, .i32⟩
  | 62 => ⟨S20000, .i32⟩
  | 63 => ⟨S20000, .i32⟩
  | 64 => ⟨S_, .i32⟩
  | 65 => ⟨S20000, .i32⟩
  | 66 => ⟨S20000, .i32⟩
  | 67 => ⟨S_, .i32⟩
  | 68 => ⟨S20000, .i32⟩
  | 69 => ⟨S20000, .i1⟩
  | 70 => ⟨S20000x1, .i32⟩
  | 71 => ⟨S_, .i32⟩
  | 72 => ⟨S20000x1, .i32⟩
  | 73 => ⟨S20000x1, .i1⟩
  | 74 => ⟨S_, .i32⟩
  | 75 => ⟨S20000x1, .i32⟩
  | 76 => ⟨S20000x1, .i32⟩
  | 77 => ⟨S20000x1, .i32⟩
  | 78 => ⟨S20000x1x1, .i32⟩
  | 79 => ⟨S1, .i32⟩
  | 80 => ⟨S_, .i32⟩
  | 81 => ⟨S20000x1x1, .i32⟩
  | 82 => ⟨S20000x1x1, .i1⟩
  | 83 => ⟨S1x1x1, .i32⟩
  | 84 => ⟨S20000x1x1, .i32⟩
  | 85 => ⟨S20000x1x1, .i1⟩
  | 86 => ⟨S20000x1x1, .i1⟩
  | 87 => ⟨S_, .i1⟩
  | 88 => ⟨S20000x1, .i1⟩
  | 89 => ⟨S20000x1, .f32⟩
  | 90 => ⟨S_, .f32⟩
  | 91 => ⟨S20000x1, .f32⟩
  | 92 => ⟨S20000x1, .f32⟩
  | 93 => ⟨S20000, .f32⟩
  | 94 => ⟨S_, .f32⟩
  | 95 => ⟨S_, .f32⟩
  | 96 => ⟨S20000, .f32⟩
  | 97 => ⟨S20000, .f32⟩
  | 98 => ⟨S_, .i32⟩
  | 99 => ⟨S_, .i32⟩
  | 100 => ⟨S_, .i32⟩
  | 101 => ⟨S20000, .i32⟩
  | 102 => ⟨S20000, .i32⟩
  | 103 => ⟨S_, .i32⟩
  | 104 => ⟨S20000, .i32⟩
  | 105 => ⟨S20000, .i32⟩
  | 106 => ⟨S_, .i32⟩
  | 107 => ⟨S20000, .i32⟩
  | 108 => ⟨S20000, .i1⟩
  | 109 => ⟨S20000, .i32⟩
  | 110 => ⟨S_, .i32⟩
  | 111 => ⟨S_, .i32⟩
  | 112 => ⟨S_, .i32⟩
  | 113 => ⟨S_, .i32⟩
  | 114 => ⟨S_, .i32⟩
  | 115 => ⟨S20000, .i32⟩
  | 116 => ⟨S20000, .i1⟩
  | 117 => ⟨S_, .i32⟩
  | 118 => ⟨S20000, .i32⟩
  | 119 => ⟨S20000, .i32⟩
  | 120 => ⟨S20000, .i32⟩
  | 121 => ⟨S20000x1, .i32⟩
  | 122 => ⟨S20000, .i32⟩
  | 123 => ⟨S20000x1, .i32⟩
  | 124 => ⟨S1x80, .i32⟩
  | 125 => ⟨S20000x80, .i32⟩
  | 126 => ⟨S20000x80, .i32⟩
  | 127 => ⟨S20000x80, .i1⟩
  | _ => ⟨S20000x80, .f32⟩

abbrev hbmTy0_2 (i : Nat) : BufTy := match i % 128 with
  | 0 => ⟨S20000x80, .f32⟩
  | 1 => ⟨S20000, .f32⟩
  | 2 => ⟨S20000, .f32⟩
  | 3 => ⟨S20000x1, .f32⟩
  | 4 => ⟨S20000x80, .f32⟩
  | 5 => ⟨S20000x80, .f32⟩
  | 6 => ⟨S_, .f32⟩
  | 7 => ⟨S20000x80, .f32⟩
  | 8 => ⟨S20000x80, .f32⟩
  | 9 => ⟨S20000x80, .f32⟩
  | 10 => ⟨S20000x80, .f32⟩
  | 11 => ⟨S20000x80, .f32⟩
  | 12 => ⟨S20000x80, .f32⟩
  | 13 => ⟨S20000x80, .f32⟩
  | 14 => ⟨S20000x80, .f32⟩
  | 15 => ⟨S20000x80, .f32⟩
  | 16 => ⟨S_, .f32⟩
  | 17 => ⟨S_, .f32⟩
  | 18 => ⟨S_, .f32⟩
  | 19 => ⟨S_, .f32⟩
  | 20 => ⟨S20000x2, .f32⟩
  | 21 => ⟨S20000x2, .f32⟩
  | 22 => ⟨S20000x2, .f32⟩
  | 23 => ⟨S_, .f32⟩
  | 24 => ⟨S20000x2, .f32⟩
  | 25 => ⟨S20000x2, .f32⟩
  | 26 => ⟨S_, .i32⟩
  | 27 => ⟨S20000, .i32⟩
  | 28 => ⟨S20000, .i1⟩
  | 29 => ⟨S_, .i32⟩
  | 30 => ⟨S20000, .i32⟩
  | 31 => ⟨S20000, .i32⟩
  | 32 => ⟨S20000, .i32⟩
  | 33 => ⟨S20000x1, .i32⟩
  | 34 => ⟨S20000x4, .f32⟩
  | 35 => ⟨S20000x1, .f32⟩
  | 36 => ⟨S20000, .f32⟩
  | 37 => ⟨S20000x1, .f32⟩
  | 38 => ⟨S20000, .f32⟩
  | 39 => ⟨S20000, .f32⟩
  | 40 => ⟨S20000x1, .f32⟩
  | 41 => ⟨S20000, .f32⟩
  | 42 => ⟨S20000x1, .f32⟩
  | 43 => ⟨S20000, .f32⟩
  | 44 => ⟨S20000, .f32⟩
  | 45 => ⟨S20000x1, .f32⟩
  | 46 => ⟨S20000, .f32⟩
  | 47 => ⟨S20000x1, .f32⟩
  | 48 => ⟨S20000, .f32⟩
  | 49 => ⟨S20000, .f32⟩
  | 50 => ⟨S20000x1, .f32⟩
  | 51 => ⟨S20000, .f32⟩
  | 52 => ⟨S20000x1, .f32⟩
  | 53 => ⟨S20000, .f32⟩
  | 54 => ⟨S20000, .f32⟩
  | 55 => ⟨S20000x1, .f32⟩
  | 56 => ⟨S20000x1, .f32⟩
  | 57 => ⟨S20000x1, .f32⟩
  | 58 => ⟨S20000x1, .f32⟩
  | 59 => ⟨S20000x4, .f32⟩
  | 60 => ⟨S_, .f32⟩
  | 61 => ⟨S20000x4, .f32⟩
  | 62 => ⟨S20000x4, .f32⟩
  | 63 => ⟨S_, .f32⟩
  | 64 => ⟨S_, .f32⟩
  | 65 => ⟨S_, .f32⟩
  | 66 => ⟨S20000x4, .f32⟩
  | 67 => ⟨S20000x4, .f32⟩
  | 68 => ⟨S_, .f32⟩
  | 69 => ⟨S20000x4, .f32⟩
  | 70 => ⟨S20000x4, .f32⟩
  | 71 => ⟨S20000x4, .f32⟩
  | 72 => ⟨S20000x4, .i32⟩
  | 73 => ⟨S_, .i32⟩
  | 74 => ⟨S_, .i32⟩
  | 75 => ⟨S_, .i32⟩
  | 76 => ⟨S20000x4, .i32⟩
  | 77 => ⟨S20000x4, .i32⟩
  | 78 => ⟨S_, .i32⟩
  | 79 => ⟨S20000x4, .i32⟩
  | 80 => ⟨S20000x4, .i32⟩
  | 81 => ⟨S_, .i32⟩
  | 82 => ⟨S20000x4, .i32⟩
  | 83 => ⟨S20000x4, .i32⟩
  | 84 => ⟨S_, .i32⟩
  | 85 => ⟨S_, .i32⟩
  | 86 => ⟨S_, .i32⟩
  | 87 => ⟨S20000x4, .i32⟩
  | 88 => ⟨S20000x4, .i32⟩
  | 89 => ⟨S_, .i32⟩
  | 90 => ⟨S20000x4, .i32⟩
  | 91 => ⟨S20000x4, .i32⟩
  | 92 => ⟨S20000x4, .f32⟩
  | 93 => ⟨S20000x4, .f32⟩
  | 94 => ⟨S_, .f32⟩
  | 95 => ⟨S20000x4, .f32⟩
  | 96 => ⟨S20000x4, .f32⟩
  | 97 => ⟨S_, .f32⟩
  | 98 => ⟨S20000x4, .f32⟩
  | 99 => ⟨S_, .f32⟩
  | 100 => ⟨S20000x4, .f32⟩
  | 101 => ⟨S20000x4, .f32⟩
  | 102 => ⟨S20000x4x1, .f32⟩
  | 103 => ⟨S20000x4x16, .f32⟩
  | 104 => ⟨S20000x4x16, .f32⟩
  | 105 => ⟨S20000x4x16, .f32⟩
  | 106 => ⟨S_, .f32⟩
  | 107 => ⟨S20000x4, .f32⟩
  | 108 => ⟨S20000x4x1, .f32⟩
  | 109 => ⟨S20000x4x1, .f32⟩
  | 110 => ⟨S20000x4x16, .f32⟩
  | 111 => ⟨S20000x4x16, .f32⟩
  | 112 => ⟨S20000x4x1, .i32⟩
  | 113 => ⟨S_, .i32⟩
  | 114 => ⟨S20000x4x1, .i32⟩
  | 115 => ⟨S20000x4x1, .i1⟩
  | 116 => ⟨S_, .i32⟩
  | 117 => ⟨S20000x4x1, .i32⟩
  | 118 => ⟨S20000x4x1, .i32⟩
  | 119 => ⟨S20000x4x1, .i32⟩
  | 120 => ⟨S20000x4x1x1, .i32⟩
  | 121 => ⟨S1, .i32⟩
  | 122 => ⟨S_, .i32⟩
  | 123 => ⟨S20000x4x1x1, .i32⟩
  | 124 => ⟨S20000x4x1x1, .i1⟩
  | 125 => ⟨S1x1x1x1, .i32⟩
  | 126 => ⟨S20000x4x1x1, .i32⟩
  | 127 => ⟨S20000x4x1x1, .i1⟩
  | _ => ⟨S20000x80, .f32⟩

abbrev hbmTy0_3 (i : Nat) : BufTy := match i % 128 with
  | 0 => ⟨S20000x4x1x1, .i1⟩
  | 1 => ⟨S_, .i1⟩
  | 2 => ⟨S20000x4x1, .i1⟩
  | 3 => ⟨S20000x4x1, .f32⟩
  | 4 => ⟨S_, .f32⟩
  | 5 => ⟨S20000x4x1, .f32⟩
  | 6 => ⟨S20000x4x1, .f32⟩
  | 7 => ⟨S20000x4, .f32⟩
  | 8 => ⟨S20000x4, .f32⟩
  | 9 => ⟨S20000x4x1, .i32⟩
  | 10 => ⟨S_, .i32⟩
  | 11 => ⟨S20000x4x1, .i32⟩
  | 12 => ⟨S20000x4x1, .i1⟩
  | 13 => ⟨S_, .i32⟩
  | 14 => ⟨S20000x4x1, .i32⟩
  | 15 => ⟨S20000x4x1, .i32⟩
  | 16 => ⟨S20000x4x1, .i32⟩
  | 17 => ⟨S20000x4x1x1, .i32⟩
  | 18 => ⟨S1, .i32⟩
  | 19 => ⟨S_, .i32⟩
  | 20 => ⟨S20000x4x1x1, .i32⟩
  | 21 => ⟨S20000x4x1x1, .i1⟩
  | 22 => ⟨S1x1x1x1, .i32⟩
  | 23 => ⟨S20000x4x1x1, .i32⟩
  | 24 => ⟨S20000x4x1x1, .i1⟩
  | 25 => ⟨S20000x4x1x1, .i1⟩
  | 26 => ⟨S_, .i1⟩
  | 27 => ⟨S20000x4x1, .i1⟩
  | 28 => ⟨S20000x4x1, .f32⟩
  | 29 => ⟨S_, .f32⟩
  | 30 => ⟨S20000x4x1, .f32⟩
  | 31 => ⟨S20000x4x1, .f32⟩
  | 32 => ⟨S20000x4, .f32⟩
  | 33 => ⟨S20000x4, .f32⟩
  | 34 => ⟨S20000x4, .f32⟩
  | 35 => ⟨S20000x4, .f32⟩
  | 36 => ⟨S20000x4, .f32⟩
  | 37 => ⟨S20000x1, .i1⟩
  | 38 => ⟨S20000x1, .f32⟩
  | 39 => ⟨S20000x4, .f32⟩
  | 40 => ⟨S20000x4, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S8x128, .f32⟩
  | _ => ⟨S20000x80, .f32⟩

abbrev hbmTy (i : Nat) : BufTy := match i / 128 with
  | 0 => hbmTy0_0 i
  | 1 => hbmTy0_1 i
  | 2 => hbmTy0_2 i
  | 3 => hbmTy0_3 i
  | _ => ⟨S20000x80, .f32⟩

abbrev bufTy : (tb : Table) → Fin (tcTables nBuf tb) → BufTy
  | .hbm, ⟨i, _⟩ => hbmTy i
  | _, _ => ⟨S20000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst : Ref sig .tc := ⟨.hbm, 42, rfl⟩
abbrev main_call0_v0 : Ref sig .tc := ⟨.hbm, 43, rfl⟩
abbrev main_call0_v1 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_0 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_1 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_cst_2 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_call1_v0 : Ref sig .tc := ⟨.hbm, 78, rfl⟩
abbrev main_call1_cst : Ref sig .tc := ⟨.hbm, 79, rfl⟩
abbrev main_call1_v1 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_values : Ref sig .tc := ⟨.hbm, 84, rfl⟩
abbrev main_indices : Ref sig .tc := ⟨.hbm, 85, rfl⟩
abbrev main_v70 : Ref sig .tc := ⟨.hbm, 86, rfl⟩
abbrev main_call2_c : Ref sig .tc := ⟨.hbm, 87, rfl⟩
abbrev main_call2_v0 : Ref sig .tc := ⟨.hbm, 88, rfl⟩
abbrev main_call2_v1 : Ref sig .tc := ⟨.hbm, 89, rfl⟩
abbrev main_call2_c_0 : Ref sig .tc := ⟨.hbm, 90, rfl⟩
abbrev main_call2_v2 : Ref sig .tc := ⟨.hbm, 91, rfl⟩
abbrev main_call2_v3 : Ref sig .tc := ⟨.hbm, 92, rfl⟩
abbrev main_call2_v4 : Ref sig .tc := ⟨.hbm, 93, rfl⟩
abbrev main_call2_v5 : Ref sig .tc := ⟨.hbm, 94, rfl⟩
abbrev main_call2_c_1 : Ref sig .tc := ⟨.hbm, 95, rfl⟩
abbrev main_call2_c_2 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_call2_c_3 : Ref sig .tc := ⟨.hbm, 103, rfl⟩
abbrev main_call2_v12 : Ref sig .tc := ⟨.hbm, 104, rfl⟩
abbrev main_call2_v13 : Ref sig .tc := ⟨.hbm, 105, rfl⟩
abbrev main_call2_cst : Ref sig .tc := ⟨.hbm, 106, rfl⟩
abbrev main_call2_v14 : Ref sig .tc := ⟨.hbm, 107, rfl⟩
abbrev main_v71 : Ref sig .tc := ⟨.hbm, 108, rfl⟩
abbrev main_cst_3 : Ref sig .tc := ⟨.hbm, 109, rfl⟩
abbrev main_v72 : Ref sig .tc := ⟨.hbm, 110, rfl⟩
abbrev main_cst_4 : Ref sig .tc := ⟨.hbm, 111, rfl⟩
abbrev main_v73 : Ref sig .tc := ⟨.hbm, 112, rfl⟩
abbrev main_v74 : Ref sig .tc := ⟨.hbm, 113, rfl⟩
abbrev main_c : Ref sig .tc := ⟨.hbm, 114, rfl⟩
abbrev main_call3_call0_cst : Ref sig .tc := ⟨.hbm, 115, rfl⟩
abbrev main_call3_call0_v0 : Ref sig .tc := ⟨.hbm, 116, rfl⟩
abbrev main_call3_call0_v1 : Ref sig .tc := ⟨.hbm, 117, rfl⟩
abbrev main_call3_call0_cst_0 : Ref sig .tc := ⟨.hbm, 118, rfl⟩
abbrev main_call3_call0_v2 : Ref sig .tc := ⟨.hbm, 119, rfl⟩
abbrev main_call3_call0_v3 : Ref sig .tc := ⟨.hbm, 120, rfl⟩
abbrev main_call3_call0_v4 : Ref sig .tc := ⟨.hbm, 121, rfl⟩
abbrev main_call3_call0_v5 : Ref sig .tc := ⟨.hbm, 122, rfl⟩
abbrev main_call3_call0_v6 : Ref sig .tc := ⟨.hbm, 123, rfl⟩
abbrev main_call3_call0_v7 : Ref sig .tc := ⟨.hbm, 124, rfl⟩
abbrev main_call3_call0_cst_1 : Ref sig .tc := ⟨.hbm, 125, rfl⟩
abbrev main_call3_call0_v8 : Ref sig .tc := ⟨.hbm, 126, rfl⟩
abbrev main_call3_call0_cst_2 : Ref sig .tc := ⟨.hbm, 127, rfl⟩
abbrev main_call3_call0_v9 : Ref sig .tc := ⟨.hbm, 128, rfl⟩
abbrev main_call3_call0_v10 : Ref sig .tc := ⟨.hbm, 129, rfl⟩
abbrev main_call3_call0_v11 : Ref sig .tc := ⟨.hbm, 130, rfl⟩
abbrev main_call3_call0_cst_3 : Ref sig .tc := ⟨.hbm, 131, rfl⟩
abbrev main_call3_call0_v12 : Ref sig .tc := ⟨.hbm, 132, rfl⟩
abbrev main_call3_call0_cst_4 : Ref sig .tc := ⟨.hbm, 133, rfl⟩
abbrev main_call3_call0_call0_v0 : Ref sig .tc := ⟨.hbm, 134, rfl⟩
abbrev main_call3_call0_call0_v1 : Ref sig .tc := ⟨.hbm, 135, rfl⟩
abbrev main_call3_v0 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_v83 : Ref sig .tc := ⟨.hbm, 145, rfl⟩
abbrev main_v84 : Ref sig .tc := ⟨.hbm, 146, rfl⟩
abbrev main_v85 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_c_5 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_v118 : Ref sig .tc := ⟨.hbm, 184, rfl⟩
abbrev main_c_6 : Ref sig .tc := ⟨.hbm, 185, rfl⟩
abbrev main_v119 : Ref sig .tc := ⟨.hbm, 186, rfl⟩
abbrev main_c_7 : Ref sig .tc := ⟨.hbm, 187, rfl⟩
abbrev main_c_8 : Ref sig .tc := ⟨.hbm, 188, rfl⟩
abbrev main_call5_v0 : Ref sig .tc := ⟨.hbm, 189, rfl⟩
abbrev main_call5_v1 : Ref sig .tc := ⟨.hbm, 190, rfl⟩
abbrev main_call5_v2 : Ref sig .tc := ⟨.hbm, 191, rfl⟩
abbrev main_call5_v3 : Ref sig .tc := ⟨.hbm, 192, rfl⟩
abbrev main_call5_v4 : Ref sig .tc := ⟨.hbm, 193, rfl⟩
abbrev main_v120 : Ref sig .tc := ⟨.hbm, 194, rfl⟩
abbrev main_c_9 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_call6_c : Ref sig .tc := ⟨.hbm, 199, rfl⟩
abbrev main_call6_v0 : Ref sig .tc := ⟨.hbm, 200, rfl⟩
abbrev main_call6_v1 : Ref sig .tc := ⟨.hbm, 201, rfl⟩
abbrev main_call6_c_0 : Ref sig .tc := ⟨.hbm, 202, rfl⟩
abbrev main_call6_v2 : Ref sig .tc := ⟨.hbm, 203, rfl⟩
abbrev main_call6_v3 : Ref sig .tc := ⟨.hbm, 204, rfl⟩
abbrev main_call6_v4 : Ref sig .tc := ⟨.hbm, 205, rfl⟩
abbrev main_call6_v5 : Ref sig .tc := ⟨.hbm, 206, rfl⟩
abbrev main_call6_c_1 : Ref sig .tc := ⟨.hbm, 207, rfl⟩
abbrev main_call6_c_2 : Ref sig .tc := ⟨.hbm, 208, rfl⟩
abbrev main_call6_v6 : Ref sig .tc := ⟨.hbm, 209, rfl⟩
abbrev main_call6_v7 : Ref sig .tc := ⟨.hbm, 210, rfl⟩
abbrev main_call6_v8 : Ref sig .tc := ⟨.hbm, 211, rfl⟩
abbrev main_call6_v9 : Ref sig .tc := ⟨.hbm, 212, rfl⟩
abbrev main_call6_v10 : Ref sig .tc := ⟨.hbm, 213, rfl⟩
abbrev main_call6_v11 : Ref sig .tc := ⟨.hbm, 214, rfl⟩
abbrev main_call6_c_3 : Ref sig .tc := ⟨.hbm, 215, rfl⟩
abbrev main_call6_v12 : Ref sig .tc := ⟨.hbm, 216, rfl⟩
abbrev main_call6_v13 : Ref sig .tc := ⟨.hbm, 217, rfl⟩
abbrev main_call6_cst : Ref sig .tc := ⟨.hbm, 218, rfl⟩
abbrev main_call6_v14 : Ref sig .tc := ⟨.hbm, 219, rfl⟩
abbrev main_v124 : Ref sig .tc := ⟨.hbm, 220, rfl⟩
abbrev main_v125 : Ref sig .tc := ⟨.hbm, 221, rfl⟩
abbrev main_cst_10 : Ref sig .tc := ⟨.hbm, 222, rfl⟩
abbrev main_call7_v0 : Ref sig .tc := ⟨.hbm, 223, rfl⟩
abbrev main_call7_v1 : Ref sig .tc := ⟨.hbm, 224, rfl⟩
abbrev main_v126 : Ref sig .tc := ⟨.hbm, 225, rfl⟩
abbrev main_c_11 : Ref sig .tc := ⟨.hbm, 226, rfl⟩
abbrev main_c_12 : Ref sig .tc := ⟨.hbm, 227, rfl⟩
abbrev main_call8_v0 : Ref sig .tc := ⟨.hbm, 228, rfl⟩
abbrev main_call8_v1 : Ref sig .tc := ⟨.hbm, 229, rfl⟩
abbrev main_call8_v2 : Ref sig .tc := ⟨.hbm, 230, rfl⟩
abbrev main_call8_v3 : Ref sig .tc := ⟨.hbm, 231, rfl⟩
abbrev main_call8_v4 : Ref sig .tc := ⟨.hbm, 232, rfl⟩
abbrev main_v127 : Ref sig .tc := ⟨.hbm, 233, rfl⟩
abbrev main_c_13 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_c_14 : Ref sig .tc := ⟨.hbm, 238, rfl⟩
abbrev main_v131 : Ref sig .tc := ⟨.hbm, 239, rfl⟩
abbrev main_c_15 : Ref sig .tc := ⟨.hbm, 240, rfl⟩
abbrev main_v132 : Ref sig .tc := ⟨.hbm, 241, rfl⟩
abbrev main_c_16 : Ref sig .tc := ⟨.hbm, 242, rfl⟩
abbrev main_v133 : Ref sig .tc := ⟨.hbm, 243, rfl⟩
abbrev main_v134 : Ref sig .tc := ⟨.hbm, 244, rfl⟩
abbrev main_c_17 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_call9_v0 : Ref sig .tc := ⟨.hbm, 251, rfl⟩
abbrev main_call9_v1 : Ref sig .tc := ⟨.hbm, 252, rfl⟩
abbrev main_call9_v2 : Ref sig .tc := ⟨.hbm, 253, rfl⟩
abbrev main_call9_v3 : Ref sig .tc := ⟨.hbm, 254, rfl⟩
abbrev main_call9_v4 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_v143 : Ref sig .tc := ⟨.hbm, 259, rfl⟩
abbrev main_v144 : Ref sig .tc := ⟨.hbm, 260, rfl⟩
abbrev main_v145 : Ref sig .tc := ⟨.hbm, 261, rfl⟩
abbrev main_cst_18 : Ref sig .tc := ⟨.hbm, 262, rfl⟩
abbrev main_v146 : Ref sig .tc := ⟨.hbm, 263, rfl⟩
abbrev main_v147 : Ref sig .tc := ⟨.hbm, 264, rfl⟩
abbrev main_v148 : Ref sig .tc := ⟨.hbm, 265, rfl⟩
abbrev main_v149 : Ref sig .tc := ⟨.hbm, 266, rfl⟩
abbrev main_v150 : Ref sig .tc := ⟨.hbm, 267, rfl⟩
abbrev main_v151 : Ref sig .tc := ⟨.hbm, 268, rfl⟩
abbrev main_v152 : Ref sig .tc := ⟨.hbm, 269, rfl⟩
abbrev main_v153 : Ref sig .tc := ⟨.hbm, 270, rfl⟩
abbrev main_v154 : Ref sig .tc := ⟨.hbm, 271, rfl⟩
abbrev main_cst_19 : Ref sig .tc := ⟨.hbm, 272, rfl⟩
abbrev main_v155 : Ref sig .tc := ⟨.hbm, 273, rfl⟩
abbrev main_v156 : Ref sig .tc := ⟨.hbm, 274, rfl⟩
abbrev main_v157 : Ref sig .tc := ⟨.hbm, 275, rfl⟩
abbrev main_v158 : Ref sig .tc := ⟨.hbm, 276, rfl⟩
abbrev main_v159 : Ref sig .tc := ⟨.hbm, 277, rfl⟩
abbrev main_v160 : Ref sig .tc := ⟨.hbm, 278, rfl⟩
abbrev main_cst_20 : Ref sig .tc := ⟨.hbm, 279, rfl⟩
abbrev main_v161 : Ref sig .tc := ⟨.hbm, 280, rfl⟩
abbrev main_v162 : Ref sig .tc := ⟨.hbm, 281, rfl⟩
abbrev main_c_21 : Ref sig .tc := ⟨.hbm, 282, rfl⟩
abbrev main_v163 : Ref sig .tc := ⟨.hbm, 283, rfl⟩
abbrev main_v164 : Ref sig .tc := ⟨.hbm, 284, rfl⟩
abbrev main_c_22 : Ref sig .tc := ⟨.hbm, 285, rfl⟩
abbrev main_v165 : Ref sig .tc := ⟨.hbm, 286, rfl⟩
abbrev main_v166 : Ref sig .tc := ⟨.hbm, 287, rfl⟩
abbrev main_v167 : Ref sig .tc := ⟨.hbm, 288, rfl⟩
abbrev main_v168 : Ref sig .tc := ⟨.hbm, 289, rfl⟩
abbrev main_v169 : Ref sig .tc := ⟨.hbm, 290, rfl⟩
abbrev main_v170 : Ref sig .tc := ⟨.hbm, 291, rfl⟩
abbrev main_v171 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_v184 : Ref sig .tc := ⟨.hbm, 305, rfl⟩
abbrev main_v185 : Ref sig .tc := ⟨.hbm, 306, rfl⟩
abbrev main_v186 : Ref sig .tc := ⟨.hbm, 307, rfl⟩
abbrev main_v187 : Ref sig .tc := ⟨.hbm, 308, rfl⟩
abbrev main_v188 : Ref sig .tc := ⟨.hbm, 309, rfl⟩
abbrev main_v189 : Ref sig .tc := ⟨.hbm, 310, rfl⟩
abbrev main_v190 : Ref sig .tc := ⟨.hbm, 311, rfl⟩
abbrev main_v191 : Ref sig .tc := ⟨.hbm, 312, rfl⟩
abbrev main_v192 : Ref sig .tc := ⟨.hbm, 313, rfl⟩
abbrev main_v193 : Ref sig .tc := ⟨.hbm, 314, rfl⟩
abbrev main_v194 : Ref sig .tc := ⟨.hbm, 315, rfl⟩
abbrev main_cst_23 : Ref sig .tc := ⟨.hbm, 316, rfl⟩
abbrev main_v195 : Ref sig .tc := ⟨.hbm, 317, rfl⟩
abbrev main_v196 : Ref sig .tc := ⟨.hbm, 318, rfl⟩
abbrev main_cst_24 : Ref sig .tc := ⟨.hbm, 319, rfl⟩
abbrev main_cst_25 : Ref sig .tc := ⟨.hbm, 320, rfl⟩
abbrev main_call10_v0 : Ref sig .tc := ⟨.hbm, 321, rfl⟩
abbrev main_call10_v1 : Ref sig .tc := ⟨.hbm, 322, rfl⟩
abbrev main_call10_v2 : Ref sig .tc := ⟨.hbm, 323, rfl⟩
abbrev main_call10_v3 : Ref sig .tc := ⟨.hbm, 324, rfl⟩
abbrev main_call10_v4 : Ref sig .tc := ⟨.hbm, 325, rfl⟩
abbrev main_v197 : Ref sig .tc := ⟨.hbm, 326, rfl⟩
abbrev main_v198 : Ref sig .tc := ⟨.hbm, 327, rfl⟩
abbrev main_v199 : Ref sig .tc := ⟨.hbm, 328, rfl⟩
abbrev main_c_26 : Ref sig .tc := ⟨.hbm, 329, rfl⟩
abbrev main_c_27 : Ref sig .tc := ⟨.hbm, 330, rfl⟩
abbrev main_call11_v0 : Ref sig .tc := ⟨.hbm, 331, rfl⟩
abbrev main_call11_v1 : Ref sig .tc := ⟨.hbm, 332, rfl⟩
abbrev main_call11_v2 : Ref sig .tc := ⟨.hbm, 333, rfl⟩
abbrev main_call11_v3 : Ref sig .tc := ⟨.hbm, 334, rfl⟩
abbrev main_call11_v4 : Ref sig .tc := ⟨.hbm, 335, rfl⟩
abbrev main_v200 : Ref sig .tc := ⟨.hbm, 336, rfl⟩
abbrev main_c_28 : Ref sig .tc := ⟨.hbm, 337, rfl⟩
abbrev main_v201 : Ref sig .tc := ⟨.hbm, 338, rfl⟩
abbrev main_v202 : Ref sig .tc := ⟨.hbm, 339, rfl⟩
abbrev main_c_29 : Ref sig .tc := ⟨.hbm, 340, rfl⟩
abbrev main_c_30 : Ref sig .tc := ⟨.hbm, 341, rfl⟩
abbrev main_call12_v0 : Ref sig .tc := ⟨.hbm, 342, rfl⟩
abbrev main_call12_v1 : Ref sig .tc := ⟨.hbm, 343, rfl⟩
abbrev main_call12_v2 : Ref sig .tc := ⟨.hbm, 344, rfl⟩
abbrev main_call12_v3 : Ref sig .tc := ⟨.hbm, 345, rfl⟩
abbrev main_call12_v4 : Ref sig .tc := ⟨.hbm, 346, rfl⟩
abbrev main_v203 : Ref sig .tc := ⟨.hbm, 347, rfl⟩
abbrev main_v204 : Ref sig .tc := ⟨.hbm, 348, rfl⟩
abbrev main_v205 : Ref sig .tc := ⟨.hbm, 349, rfl⟩
abbrev main_cst_31 : Ref sig .tc := ⟨.hbm, 350, rfl⟩
abbrev main_v206 : Ref sig .tc := ⟨.hbm, 351, rfl⟩
abbrev main_v207 : Ref sig .tc := ⟨.hbm, 352, rfl⟩
abbrev main_call13_cst : Ref sig .tc := ⟨.hbm, 353, rfl⟩
abbrev main_call13_v0 : Ref sig .tc := ⟨.hbm, 354, rfl⟩
abbrev main_call13_cst_0 : Ref sig .tc := ⟨.hbm, 355, rfl⟩
abbrev main_call13_v1 : Ref sig .tc := ⟨.hbm, 356, rfl⟩
abbrev main_call13_v2 : Ref sig .tc := ⟨.hbm, 357, rfl⟩
abbrev main_call13_v3 : Ref sig .tc := ⟨.hbm, 358, rfl⟩
abbrev main_call13_v4 : Ref sig .tc := ⟨.hbm, 359, rfl⟩
abbrev main_call13_v5 : Ref sig .tc := ⟨.hbm, 360, rfl⟩
abbrev main_call13_v6 : Ref sig .tc := ⟨.hbm, 361, rfl⟩
abbrev main_call13_cst_1 : Ref sig .tc := ⟨.hbm, 362, rfl⟩
abbrev main_call13_v7 : Ref sig .tc := ⟨.hbm, 363, rfl⟩
abbrev main_call13_v8 : Ref sig .tc := ⟨.hbm, 364, rfl⟩
abbrev main_call13_v9 : Ref sig .tc := ⟨.hbm, 365, rfl⟩
abbrev main_call13_v10 : Ref sig .tc := ⟨.hbm, 366, rfl⟩
abbrev main_v208 : Ref sig .tc := ⟨.hbm, 367, rfl⟩
abbrev main_v209 : Ref sig .tc := ⟨.hbm, 368, rfl⟩
abbrev main_call14_c : Ref sig .tc := ⟨.hbm, 369, rfl⟩
abbrev main_call14_v0 : Ref sig .tc := ⟨.hbm, 370, rfl⟩
abbrev main_call14_v1 : Ref sig .tc := ⟨.hbm, 371, rfl⟩
abbrev main_call14_c_0 : Ref sig .tc := ⟨.hbm, 372, rfl⟩
abbrev main_call14_v2 : Ref sig .tc := ⟨.hbm, 373, rfl⟩
abbrev main_call14_v3 : Ref sig .tc := ⟨.hbm, 374, rfl⟩
abbrev main_call14_v4 : Ref sig .tc := ⟨.hbm, 375, rfl⟩
abbrev main_call14_v5 : Ref sig .tc := ⟨.hbm, 376, rfl⟩
abbrev main_call14_c_1 : Ref sig .tc := ⟨.hbm, 377, rfl⟩
abbrev main_call14_c_2 : Ref sig .tc := ⟨.hbm, 378, rfl⟩
abbrev main_call14_v6 : Ref sig .tc := ⟨.hbm, 379, rfl⟩
abbrev main_call14_v7 : Ref sig .tc := ⟨.hbm, 380, rfl⟩
abbrev main_call14_v8 : Ref sig .tc := ⟨.hbm, 381, rfl⟩
abbrev main_call14_v9 : Ref sig .tc := ⟨.hbm, 382, rfl⟩
abbrev main_call14_v10 : Ref sig .tc := ⟨.hbm, 383, rfl⟩
abbrev main_call14_v11 : Ref sig .tc := ⟨.hbm, 384, rfl⟩
abbrev main_call14_c_3 : Ref sig .tc := ⟨.hbm, 385, rfl⟩
abbrev main_call14_v12 : Ref sig .tc := ⟨.hbm, 386, rfl⟩
abbrev main_call14_v13 : Ref sig .tc := ⟨.hbm, 387, rfl⟩
abbrev main_call14_cst : Ref sig .tc := ⟨.hbm, 388, rfl⟩
abbrev main_call14_v14 : Ref sig .tc := ⟨.hbm, 389, rfl⟩
abbrev main_v210 : Ref sig .tc := ⟨.hbm, 390, rfl⟩
abbrev main_v211 : Ref sig .tc := ⟨.hbm, 391, rfl⟩
abbrev main_v212 : Ref sig .tc := ⟨.hbm, 392, rfl⟩
abbrev main_v213 : Ref sig .tc := ⟨.hbm, 393, rfl⟩
abbrev main_call15_c : Ref sig .tc := ⟨.hbm, 394, rfl⟩
abbrev main_call15_v0 : Ref sig .tc := ⟨.hbm, 395, rfl⟩
abbrev main_call15_v1 : Ref sig .tc := ⟨.hbm, 396, rfl⟩
abbrev main_call15_c_0 : Ref sig .tc := ⟨.hbm, 397, rfl⟩
abbrev main_call15_v2 : Ref sig .tc := ⟨.hbm, 398, rfl⟩
abbrev main_call15_v3 : Ref sig .tc := ⟨.hbm, 399, rfl⟩
abbrev main_call15_v4 : Ref sig .tc := ⟨.hbm, 400, rfl⟩
abbrev main_call15_v5 : Ref sig .tc := ⟨.hbm, 401, rfl⟩
abbrev main_call15_c_1 : Ref sig .tc := ⟨.hbm, 402, rfl⟩
abbrev main_call15_c_2 : Ref sig .tc := ⟨.hbm, 403, rfl⟩
abbrev main_call15_v6 : Ref sig .tc := ⟨.hbm, 404, rfl⟩
abbrev main_call15_v7 : Ref sig .tc := ⟨.hbm, 405, rfl⟩
abbrev main_call15_v8 : Ref sig .tc := ⟨.hbm, 406, rfl⟩
abbrev main_call15_v9 : Ref sig .tc := ⟨.hbm, 407, rfl⟩
abbrev main_call15_v10 : Ref sig .tc := ⟨.hbm, 408, rfl⟩
abbrev main_call15_v11 : Ref sig .tc := ⟨.hbm, 409, rfl⟩
abbrev main_call15_c_3 : Ref sig .tc := ⟨.hbm, 410, rfl⟩
abbrev main_call15_v12 : Ref sig .tc := ⟨.hbm, 411, rfl⟩
abbrev main_call15_v13 : Ref sig .tc := ⟨.hbm, 412, rfl⟩
abbrev main_call15_cst : Ref sig .tc := ⟨.hbm, 413, rfl⟩
abbrev main_call15_v14 : Ref sig .tc := ⟨.hbm, 414, rfl⟩
abbrev main_v214 : Ref sig .tc := ⟨.hbm, 415, rfl⟩
abbrev main_v215 : Ref sig .tc := ⟨.hbm, 416, rfl⟩
abbrev main_v216 : Ref sig .tc := ⟨.hbm, 417, rfl⟩
abbrev main_v217 : Ref sig .tc := ⟨.hbm, 418, rfl⟩
abbrev main_v218 : Ref sig .tc := ⟨.hbm, 419, rfl⟩
abbrev main_v219 : Ref sig .tc := ⟨.hbm, 420, rfl⟩
abbrev main_v220 : Ref sig .tc := ⟨.hbm, 421, rfl⟩
abbrev main_v221 : Ref sig .tc := ⟨.hbm, 422, rfl⟩
abbrev main_v222 : Ref sig .tc := ⟨.hbm, 423, rfl⟩
abbrev main_v223 : Ref sig .tc := ⟨.hbm, 424, rfl⟩
abbrev main_cst_32 : Ref sig .tc := ⟨.hbm, 425, rfl⟩
abbrev main_v224 : Ref sig .tc := ⟨.hbm, 426, rfl⟩
abbrev main_v225 : Ref sig .tc := ⟨.hbm, 427, rfl⟩
abbrev main_cst_33 : Ref sig .tc := ⟨.hbm, 428, rfl⟩
abbrev main_v226 : Ref sig .tc := ⟨.hbm, 429, rfl⟩
abbrev main_v227 : Ref sig .tc := ⟨.hbm, 430, rfl⟩
abbrev main_v228 : Ref sig .tc := ⟨.hbm, 431, rfl⟩
abbrev main_v229 : Ref sig .tc := ⟨.hbm, 432, rfl⟩

abbrev nD : Nat := 1
abbrev τ : Topo := Topo.v7x

variable {F : FTy → Type} [FloatOps F]
-- ==== Proof.Frame.KernelIdealRun.lean ====
/- The run of the kernel's body: its triple. -/
module

public import proofs.«01_k».proof.Proof.Gen.KernelIdeal.Frame.Runs

@[expose] public section

-- the long axes need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 16000000 in
/-- The body's triple: on whole staging memrefs — the inputs' at their contents,
    the FORGOTTEN outputs' (4) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .vmem S8x20480 .f32) (harg0 : arg0.IsWhole) (arg1 : Memref sig .tc .vmem S104x128 .f32) (harg1 : arg1.IsWhole) (arg2 : Memref sig .tc .vmem S80x20480 .f32) (harg2 : arg2.IsWhole) (arg3 : Memref sig .tc .vmem S64x20480 .f32) (harg3 : arg3.IsWhole) (arg4 : Memref sig .tc .vmem S8x128 .f32) (harg4 : arg4.IsWhole) (arg5 : Memref sig .tc .vmem S104x20480 .f32) (harg5 : arg5.IsWhole) (arg6 : Memref sig .tc .vmem S104x20480 .f32) (harg6 : arg6.IsWhole)
    (x0 : Vec F S8x20480 .f32) (x1 : Vec F S104x128 .f32) (x2 : Vec F S80x20480 .f32) (x3 : Vec F S64x20480 .f32) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)) -∗ K ⟨⟩))
          ⊢ wp frame (wpE (defs₀ (F := F)) Variants.none c none) E (cc0__body arg0 harg0 arg1 harg1 arg2 harg2 arg3 harg3 arg4 harg4 arg5 harg5 arg6 harg6) K := by
    intro E K
    simp only [cc0__body_eq_skeleton]; unfold cc0__body_skel
    simp only [k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _, _; isplitr; swap; · iexact H4
      ipureintro; rfl
    isplitl [HS0]
    · iexists _, _; isplitr; swap; · iexact HS0
      ipureintro; rfl
    iexists _, _; isplitr; swap; · iexact HS1
    ipureintro; rfl

end Cert.KernelIdeal.Gen

end
-- ==== Proof.Frame.KernelIdealFrame.lean ====
/- The kernel's frame: its proof data, its body obligation, its launch. -/
module

public import proofs.«01_k».proof.Proof.Frame.KernelIdealRun
public import Idealize.ShloMosaic.Lib.Claim

@[expose] public section

-- the long axes need the depth
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (4): nothing reads what the kernel leaves in them, so nothing
    of it is named (Lib/Pipeline/Dat.lean `Dat.toRForget`). -/
def forgets0 : Fin 5 → Bool := fun w => w.val == 4

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ (∃ d, owns (c : Thread nD τ) (ms0_4 t) fullShare d))

/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((kernelRun0_A c _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 4) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.Math.Spec.lean ====
/- The loss in plain real-number mathematics: box overlap, centre distance, the threshold of a ground-truth box from
   its nine nearest anchors, the matching, the quality-weighted classification loss and the distribution focal loss. -/
module

public import Idealize.ShloMosaic.Lib.Pointwise
public import Idealize.ShloMosaic.Lib.IdealHost

@[expose] public section

noncomputable section

namespace Cert.Spec

open Finset

/-- Centre of a box `(x1, y1, x2, y2)`, horizontally. -/
def cx (A : Fin 4 → ℝ) : ℝ := (A 0 + A 2) / 2

/-- Centre of a box, vertically. -/
def cy (A : Fin 4 → ℝ) : ℝ := (A 1 + A 3) / 2

/-- Squared distance of two boxes' centres. -/
def d2 (A B : Fin 4 → ℝ) : ℝ := (cx A - cx B) * (cx A - cx B) + (cy A - cy B) * (cy A - cy B)

/-- Area of a box. -/
def area (A : Fin 4 → ℝ) : ℝ := (A 2 - A 0) * (A 3 - A 1)

/-- Area of two boxes' intersection. -/
def inter (A B : Fin 4 → ℝ) : ℝ :=
  max (min (A 2) (B 2) - max (A 0) (B 0)) 0 * max (min (A 3) (B 3) - max (A 1) (B 1)) 0

/-- The float nearest to `1e-9`, the least denominator of an overlap. -/
def eps : ℝ := 9007199 / 9007199254740992

/-- The float nearest to `14.999`, the largest regression target. -/
def hi : ℝ := 15727591 / 1048576

/-- Intersection over union. -/
def iou (A B : Fin 4 → ℝ) : ℝ := inter A B / max (area A + area B - inter A B) eps

/-- `A`'s centre lies in the box `B`. -/
def Inside (A B : Fin 4 → ℝ) : Prop := B 0 ≤ cx A ∧ cx A ≤ B 2 ∧ B 1 ≤ cy A ∧ cy A ≤ B 3

/-- Mean of nine numbers. -/
def mean (v : Fin 9 → ℝ) : ℝ := (∑ j, v j) / 9

/-- Mean plus the unbiased standard deviation of nine numbers. -/
def thr (v : Fin 9 → ℝ) : ℝ := mean v + √((∑ j, (v j - mean v) * (v j - mean v)) / 8)

/-- The largest index with a property, if there is one. -/
def best {K : ℕ} (P : Fin K → Prop) : Option (Fin K) := by
  classical exact if h : (univ.filter P).Nonempty then some ((univ.filter P).max' h) else none

theorem best_none {K : ℕ} {P : Fin K → Prop} (h : best P = none) (m : Fin K) : ¬ P m := by
  classical
  unfold best at h
  split at h
  · exact absurd h (by simp)
  · rename_i hn
    intro hm
    exact hn ⟨m, by simp [hm]⟩

theorem best_some {K : ℕ} {P : Fin K → Prop} {m : Fin K} (h : best P = some m) : P m ∧ ∀ m', P m' → m' ≤ m := by
  classical
  unfold best at h
  split at h
  · rename_i hn
    have h' := Option.some.inj h
    refine ⟨?_, fun m' hm' => ?_⟩
    · have := (univ.filter P).max'_mem hn
      rw [h'] at this
      simpa using this
    · rw [← h']; exact (univ.filter P).le_max' _ (by simp [hm'])
  · exact absurd h (by simp)

/-- A regression target: a side's length in strides, clipped. -/
def tgt (t : ℝ) : ℝ := min hi (max 0 (t / 8))

/-- The bin left of a target. -/
def bin (t : ℝ) : ℕ := ⌊tgt t⌋₊

theorem tgt_nonneg (t : ℝ) : 0 ≤ tgt t := by unfold tgt hi; positivity

theorem tgt_lt (t : ℝ) : tgt t < 15 := lt_of_le_of_lt (min_le_left _ _) (by unfold hi; norm_num)

theorem bin_lt (t : ℝ) : bin t < 15 := (Nat.floor_lt (tgt_nonneg t)).2 (by exact_mod_cast tgt_lt t)

theorem floor_tgt (t : ℝ) : ⌊tgt t⌋ = (bin t : ℤ) := (Int.natCast_floor_eq_floor (tgt_nonneg t)).symm

/-- Signed distances of `A`'s centre to the four sides of `B`. -/
def side (A B : Fin 4 → ℝ) : Fin 4 → ℝ := ![cx A - B 0, cy A - B 1, B 2 - cx A, B 3 - cy A]

/-- The distribution focal loss of sixteen logits for a side's length `t`. -/
def dfl (x : Fin 16 → ℝ) (t : ℝ) : ℝ :=
  Real.log (∑ b, Real.exp (x b)) - (1 - (tgt t - bin t)) * x ⟨bin t, by have := bin_lt t; omega⟩
    - (tgt t - bin t) * x ⟨bin t + 1, by have := bin_lt t; omega⟩

/-- Softplus part of the cross entropy of one logit. -/
def base (p : ℝ) : ℝ := max p 0 + Real.log (1 + Real.exp (-|p|))

section
variable (a : Fin 20000 → Fin 4 → ℝ) (g : Fin 100 → Fin 4 → ℝ) (p : Fin 20000 → Fin 80 → ℝ)
  (x : Fin 20000 → Fin 4 → Fin 16 → ℝ) (lab : Fin 100 → BitVec 32) (th : Fin 100 → ℝ)

/-- Anchor `n` is a positive of ground truth `m`. -/
def Pos (n : Fin 20000) (m : Fin 100) : Prop := th m ≤ iou (a n) (g m) ∧ Inside (a n) (g m)

/-- The ground truth an anchor is matched to. -/
def matched (n : Fin 20000) : Option (Fin 100) := best (Pos a g th n)

/-- The classification score a matched anchor is trained towards, at its own class. -/
def score (n : Fin 20000) : ℝ := (matched a g th n).elim 0 fun m => iou (a n) (g m)

/-- The logit of the matched class. -/
def labelLogit (n : Fin 20000) : ℝ :=
  (matched a g th n).elim 0 fun m => ∑ c : Fin 80, if BitVec.ofNat 32 c.val = lab m then p n c else 0

/-- The four sides' focal losses of a matched anchor. -/
def regTerm (n : Fin 20000) : ℝ := (matched a g th n).elim 0 fun m => ∑ s, dfl (x n s) (side (a n) (g m) s)

/-- Number of matched anchors, as the real number the loss divides by. -/
def count : ℝ := ∑ n : Fin 20000, (matched a g th n).elim (0 : ℝ) fun _ => 1

/-- The loss. -/
def loss : ℝ :=
  (∑ n, (∑ c, base (p n c)) - ∑ n, score a g th n * labelLogit a g p lab th n) / max (count a g th) 1
    + (∑ n, regTerm a g x th n) / (max (count a g th) 1 * 4)
end

/-- The variance by sums of squares, as the kernel computes it, is the variance by deviations. -/
theorem var_eq (v : Fin 9 → ℝ) :
    max ((∑ j, v j * v j) - 9 * mean v * mean v) 0 = ∑ j, (v j - mean v) * (v j - mean v) := by
  have h : (∑ j, (v j - mean v) * (v j - mean v)) = (∑ j, v j * v j) - 9 * mean v * mean v := by
    have hs : (∑ j, v j) = 9 * mean v := by unfold mean; ring
    have : ∀ j, (v j - mean v) * (v j - mean v) = v j * v j - 2 * mean v * v j + mean v * mean v := fun j => by ring
    simp only [this, sum_add_distrib, sum_sub_distrib, ← mul_sum, hs, sum_const, card_univ, Fintype.card_fin]
    simp; ring
  rw [← h]
  exact max_eq_left (sum_nonneg fun j _ => mul_self_nonneg _)

end Cert.Spec

end
-- ==== Proof.Math.Lift.lean ====
/- Real numbers among the extended reals: the operations of the two programs on finite values, and the constants of
   the two programs as real numbers. -/
module

public import proofs.«01_k».proof.Proof.Math.Spec

@[expose] public section

noncomputable section

namespace Cert.Lift

open Idealize.ShloMosaic Finset

theorem max_coe (x y : ℝ) : max (x : EReal) (y : EReal) = ((max x y : ℝ) : EReal) :=
  (EReal.coe_strictMono.monotone.map_max).symm

theorem min_coe (x y : ℝ) : min (x : EReal) (y : EReal) = ((min x y : ℝ) : EReal) :=
  (EReal.coe_strictMono.monotone.map_min).symm

theorem max_coe_zero (x : ℝ) : max (x : EReal) 0 = ((max x 0 : ℝ) : EReal) := max_coe x 0

theorem max_zero_coe (x : ℝ) : max 0 (x : EReal) = ((max 0 x : ℝ) : EReal) := max_coe 0 x

theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem add_coe (x y : ℝ) : (x : EReal) + (y : EReal) = ((x + y : ℝ) : EReal) := (EReal.coe_add x y).symm
theorem sub_coe (x y : ℝ) : (x : EReal) - (y : EReal) = ((x - y : ℝ) : EReal) := (EReal.coe_sub x y).symm
theorem mul_coe (x y : ℝ) : (x : EReal) * (y : EReal) = ((x * y : ℝ) : EReal) := (EReal.coe_mul x y).symm
theorem neg_coe (x : ℝ) : -(x : EReal) = ((-x : ℝ) : EReal) := (EReal.coe_neg x).symm

theorem div_coe (x y : ℝ) (h : y ≠ 0) : Ideal.div (x : EReal) (y : EReal) = ((x / y : ℝ) : EReal) := by
  rw [Ideal.div_coe h, mul_coe, mul_one_div]

theorem sqrt_coe {x : ℝ} (h : 0 ≤ x) : Ideal.sqrt (x : EReal) = ((√x : ℝ) : EReal) := by
  show (if x < 0 then (⊥ : EReal) else _) = _
  rw [if_neg (not_lt.2 h)]

theorem exp_coe (x : ℝ) : Ideal.exp (x : EReal) = ((Real.exp x : ℝ) : EReal) := rfl

theorem log_coe {x : ℝ} (h : 0 < x) : Ideal.log (x : EReal) = ((Real.log x : ℝ) : EReal) := by
  show (if x ≤ 0 then (⊥ : EReal) else _) = _
  rw [if_neg (not_le.2 h)]

theorem one_coe : (1 : EReal) = ((1 : ℝ) : EReal) := rfl
theorem zero_coe : (0 : EReal) = ((0 : ℝ) : EReal) := rfl

theorem half : Ideal.ofBits .f32 0x3F000000#32 = ((1 / 2 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num
theorem four : Ideal.ofBits .f32 0x40800000#32 = ((4 : ℝ) : EReal) := by
  simp [Ideal.ofBits, Ideal.ieee, -EReal.coe_mul]; norm_num
theorem eight : Ideal.ofBits .f32 0x41000000#32 = ((8 : ℝ) : EReal) := by
  simp [Ideal.ofBits, Ideal.ieee, -EReal.coe_mul]; norm_num
theorem nine : Ideal.ofBits .f32 0x41100000#32 = ((9 : ℝ) : EReal) := by
  simp [Ideal.ofBits, Ideal.ieee, -EReal.coe_mul]; norm_num
theorem million : Ideal.ofBits .f32 0x49742400#32 = ((1000000 : ℝ) : EReal) := by
  simp [Ideal.ofBits, Ideal.ieee, -EReal.coe_mul]; norm_num
theorem bound : Ideal.ofBits .f32 0x48927C00#32 = ((300000 : ℝ) : EReal) := by
  simp [Ideal.ofBits, Ideal.ieee, -EReal.coe_mul]; norm_num
theorem eps : Ideal.ofBits .f32 0x3089705F#32 = ((Spec.eps : ℝ) : EReal) := by
  simp [Ideal.ofBits, Ideal.ieee, Spec.eps, -EReal.coe_mul]; norm_num
theorem hi : Ideal.ofBits .f32 0x416FFBE7#32 = ((Spec.hi : ℝ) : EReal) := by
  simp [Ideal.ofBits, Ideal.ieee, Spec.hi, -EReal.coe_mul]; norm_num
theorem top : Ideal.ofBits .f32 0x7F800000#32 = (⊤ : EReal) := by
  simp [Ideal.ofBits, Ideal.ieee]
theorem bot : Ideal.ofBits .f32 0xFF800000#32 = (⊥ : EReal) := by
  simp [Ideal.ofBits, Ideal.ieee]

theorem eps_pos : 0 < Spec.eps := by unfold Spec.eps; norm_num

/-- Overlap of two boxes of finite coordinates. -/
theorem iou (A B : Fin 4 → ℝ) :
    Ideal.div (max (min (A 2 : EReal) (B 2 : EReal) - max (A 0 : EReal) (B 0 : EReal)) 0
        * max (min (A 3 : EReal) (B 3 : EReal) - max (A 1 : EReal) (B 1 : EReal)) 0)
      (max (((A 2 : EReal) - A 0) * ((A 3 : EReal) - A 1) + ((B 2 : EReal) - B 0) * ((B 3 : EReal) - B 1)
        - max (min (A 2 : EReal) (B 2 : EReal) - max (A 0 : EReal) (B 0 : EReal)) 0
        * max (min (A 3 : EReal) (B 3 : EReal) - max (A 1 : EReal) (B 1 : EReal)) 0)
        (Spec.eps : EReal)) = ((Spec.iou A B : ℝ) : EReal) := by
  simp only [min_coe, max_coe, sub_coe, max_coe_zero, mul_coe, add_coe]
  rw [div_coe _ _ (ne_of_gt (lt_of_lt_of_le eps_pos (le_max_right _ _)))]
  rfl

/-- A greatest lower bound of finitely many extended reals is below each of them. -/
theorem le_fold_min {K : ℕ} (f : Fin K → EReal) (y : EReal) :
    y ≤ Finset.fold min ⊤ f univ ↔ ∀ k, y ≤ f k := by
  rw [Finset.le_fold_min]; simp

theorem fptosi_coe (x : ℝ) (n : ℕ) (h0 : 0 ≤ x) (hn : ⌊x⌋ = (n : ℤ)) (hlt : n < 2 ^ 31) :
    Ideal.fptosi 32 (x : EReal) = BitVec.ofNat 32 n := by
  unfold Ideal.fptosi
  rw [Ideal.toIntClamped_coe, if_pos h0, hn]
  have : max (-(2 ^ (32 - 1) : ℕ) : ℤ) (min (((2 ^ (32 - 1) : ℕ) : ℤ) - 1) (n : ℤ)) = (n : ℤ) := by
    norm_num; omega
  rw [this]; exact BitVec.ofInt_natCast 32 n

/-- Truncating an integer's own float gives the integer back. -/
theorem fptosi_toInt (b : BitVec 32) : Ideal.fptosi 32 (((b.toInt : ℝ) : ℝ) : EReal) = b := by
  unfold Ideal.fptosi
  rw [Ideal.toIntClamped_coe]
  have h1 := b.toInt_lt
  have h2 := b.le_toInt
  rw [Int.floor_intCast, Int.ceil_intCast, ite_self]
  have : max (-(2 ^ (32 - 1) : ℕ) : ℤ) (min (((2 ^ (32 - 1) : ℕ) : ℤ) - 1) b.toInt) = b.toInt := by
    norm_num at h1 h2 ⊢; omega
  rw [this]; exact BitVec.ofInt_toInt

/-- A truth value as a float. -/
theorem sitofp_true : FloatOps.sitofp (F := Ideal) FTy.f32 (BitVec.setWidth 32 (BitVec.ofBool true)) = ((1 : ℝ) : EReal) := by
  have : (BitVec.setWidth 32 (BitVec.ofBool true)).toInt = 1 := by decide
  show ((((BitVec.setWidth 32 (BitVec.ofBool true)).toInt : ℝ)) : EReal) = _
  rw [this]; norm_num

theorem sitofp_false : FloatOps.sitofp (F := Ideal) FTy.f32 (BitVec.setWidth 32 (BitVec.ofBool false)) = ((0 : ℝ) : EReal) := by
  have : (BitVec.setWidth 32 (BitVec.ofBool false)).toInt = 0 := by decide
  show ((((BitVec.setWidth 32 (BitVec.ofBool false)).toInt : ℝ)) : EReal) = _
  rw [this]; norm_num

end Cert.Lift

end
-- ==== Proof.Math.Chunks.lean ====
/- Sums taken chunk by chunk, and the nine nearest of a row of distances without ties. -/
module

public import proofs.«01_k».proof.Proof.Math.Lift

@[expose] public section

noncomputable section

namespace Cert.Chunks

open Finset

/-- Column `j` of chunk `k`. -/
def col (k : ℕ) (hk : k < 10) (j : Fin 2048) : Fin 20480 := ⟨2048 * k + j.val, by omega⟩

section
variable {M : Type} [AddCommMonoid M]

/-- The sum over the first `k` chunks. -/
def pre (f : Fin 20480 → M) (k : ℕ) : M := ∑ n, if n.val < 2048 * k then f n else 0

theorem pre_zero (f : Fin 20480 → M) : pre f 0 = 0 := by
  unfold pre; simp

theorem pre_ten (f : Fin 20480 → M) : pre f 10 = ∑ n, f n :=
  sum_congr rfl fun n _ => if_pos (by omega)

theorem pre_succ (f : Fin 20480 → M) (k : ℕ) (hk : k < 10) : pre f (k + 1) = pre f k + ∑ j, f (col k hk j) := by
  have h2 : ∑ j, f (col k hk j) = ∑ n, if 2048 * k ≤ n.val ∧ n.val < 2048 * (k + 1) then f n else 0 := by
    rw [← sum_filter]
    refine sum_bij (fun j _ => col k hk j) (fun j _ => ?_) (fun i _ j _ h => ?_) (fun n hn => ?_) (fun _ _ => rfl)
    · simp only [mem_filter, mem_univ, true_and]
      show 2048 * k ≤ 2048 * k + j.val ∧ 2048 * k + j.val < 2048 * (k + 1)
      omega
    · have := congrArg Fin.val h
      change 2048 * k + i.val = 2048 * k + j.val at this
      exact Fin.ext (by omega)
    · simp only [mem_filter, mem_univ, true_and] at hn
      exact ⟨⟨n.val - 2048 * k, by omega⟩, mem_univ _, Fin.ext (by show 2048 * k + (n.val - 2048 * k) = n.val; omega)⟩
  unfold pre
  rw [h2, ← sum_add_distrib]
  refine sum_congr rfl fun n _ => ?_
  by_cases h : n.val < 2048 * k
  · rw [if_pos h, if_pos (by omega), if_neg (by omega), add_zero]
  · by_cases h' : n.val < 2048 * (k + 1)
    · rw [if_neg h, if_pos h', if_pos (by omega), zero_add]
    · rw [if_neg h, if_neg h', if_neg (by omega), add_zero]
end

/-- `e` lists the ten nearest of a row of distances, nearest first and without ties. -/
structure Nearest {N : ℕ} (D : Fin N → ℝ) (e : Fin 10 → Fin N) : Prop where
  lt : ∀ i j : Fin 10, i < j → D (e i) < D (e j)
  out : ∀ n, (∃ i, n = e i) ∨ D (e 9) ≤ D n

namespace Nearest
variable {N : ℕ} {D : Fin N → ℝ} {e : Fin 10 → Fin N} (h : Nearest D e)
include h

theorem lt_iff (i j : Fin 10) : D (e i) < D (e j) ↔ i < j := by
  constructor
  · intro hd
    by_contra hn
    rcases lt_or_eq_of_le (not_lt.1 hn) with hlt | heq
    · exact absurd (h.lt j i hlt) (not_lt.2 hd.le)
    · exact absurd (heq ▸ hd) (lt_irrefl _)
  · exact h.lt i j

theorem le_of_out {n : Fin N} (hn : ¬ ∃ i, n = e i) (i : Fin 10) : D (e i) ≤ D n := by
  have h9 := (h.out n).resolve_left hn
  rcases lt_or_eq_of_le (show i ≤ 9 by omega) with hlt | heq
  · exact (h.lt i 9 hlt).le.trans h9
  · rw [heq]; exact h9

theorem first {τ : EReal} (hτ : ∀ y : EReal, y ≤ τ ↔ ∀ n, y ≤ (D n : EReal)) : τ = (D (e 0) : EReal) := by
  refine le_antisymm ((hτ τ).1 le_rfl (e 0)) ((hτ _).2 fun n => EReal.coe_le_coe_iff.2 ?_)
  by_cases hn : ∃ i, n = e i
  · obtain ⟨i, rfl⟩ := hn
    rcases lt_or_eq_of_le (Fin.zero_le i) with hlt | heq
    · exact (h.lt 0 i hlt).le
    · rw [← heq]
  · exact h.le_of_out hn 0

theorem next {τ : EReal} (k : ℕ) (hk : k + 1 < 10)
    (hτ : ∀ y : EReal, y ≤ τ ↔ ∀ n, (D (e ⟨k, by omega⟩) : EReal) < (D n : EReal) → y ≤ (D n : EReal)) :
    τ = (D (e ⟨k + 1, hk⟩) : EReal) := by
  refine le_antisymm ((hτ τ).1 le_rfl (e ⟨k + 1, hk⟩) (EReal.coe_lt_coe_iff.2 (h.lt _ _ (by show k < k + 1; omega))))
    ((hτ _).2 fun n hn => EReal.coe_le_coe_iff.2 ?_)
  have hn' := EReal.coe_lt_coe_iff.1 hn
  by_cases hx : ∃ i, n = e i
  · obtain ⟨i, rfl⟩ := hx
    have hi := (h.lt_iff _ _).1 hn'
    have hi' : k < i.val := hi
    rcases lt_or_eq_of_le (show (⟨k + 1, hk⟩ : Fin 10) ≤ i by show k + 1 ≤ i.val; omega) with hlt | heq
    · exact (h.lt _ _ hlt).le
    · rw [← heq]
  · exact h.le_of_out hx _

theorem inj : Function.Injective e := fun i j hij => by
  by_contra hne
  rcases lt_or_gt_of_ne hne with hlt | hlt
  · exact absurd (h.lt _ _ hlt) (by rw [hij]; exact lt_irrefl _)
  · exact absurd (h.lt _ _ hlt) (by rw [hij]; exact lt_irrefl _)

/-- A sum over the columns no farther than the ninth nearest is a sum over the nine nearest. -/
theorem sum_near (f : Fin N → ℝ) :
    (∑ n, if D n ≤ D (e 8) then f n else 0) = ∑ j : Fin 9, f (e (j.castLE (by omega))) := by
  classical
  rw [← sum_filter]
  symm
  refine sum_bij (fun j _ => e (j.castLE (by omega))) (fun j _ => ?_) (fun i _ j _ hij => ?_) (fun n hn => ?_) (fun _ _ => rfl)
  · simp only [mem_filter, mem_univ, true_and]
    by_contra hc
    have := (h.lt_iff _ _).1 (not_le.1 hc)
    have h8 : (8 : ℕ) < j.val := this
    omega
  · exact Fin.castLE_injective _ (h.inj hij)
  · simp only [mem_filter, mem_univ, true_and] at hn
    rcases h.out n with ⟨i, rfl⟩ | hout
    · have hi : ¬ (8 : Fin 10) < i := fun hlt => absurd (h.lt _ _ hlt) (not_lt.2 hn)
      have hi' : i.val ≤ 8 := not_lt.1 hi
      exact ⟨⟨i.val, by omega⟩, mem_univ _, rfl⟩
    · exact absurd ((h.lt 8 9 (by decide)).trans_le hout) (not_lt.2 hn)

end Nearest

end Cert.Chunks

end
-- ==== Proof.Math.TopK.lean ====
/- The nearest entries of a row: what the host's top-k returns on a matrix of extended reals, as one order of the columns. -/
module

public import Idealize.ShloMosaic.Lib.Pointwise
public import Idealize.ShloMosaic.Lib.SortFacts
public import proofs.«01_k».proof.Proof.Math.Chunks

@[expose] public section

set_option maxRecDepth 16384
noncomputable section

namespace Cert.TopK

open Idealize.ShloMosaic

variable {R C K : ℕ}

/-- The columns in decreasing order of row `m`'s entries. -/
def ord (x : (⟨2, ![R, C]⟩ : Shape).Idx → EReal) (m : Fin R) : Fin C → Fin C :=
  sortedFrom fun k k' => FloatOps.cmpfTotal (F := Ideal) (φ := .f32) .gt (x (ix2 m k)) (x (ix2 m k')) == 1#1

theorem gt_iff (a b : EReal) : (FloatOps.cmpfTotal (F := Ideal) (φ := .f32) .gt a b == 1#1) = decide (b < a) := by
  show (BitVec.ofBool (decide (b < a)) == 1#1) = _
  cases decide (b < a) <;> rfl

theorem ord_le (x : (⟨2, ![R, C]⟩ : Shape).Idx → EReal) (m : Fin R) {i j : Fin C} (h : i < j) : x (ix2 m (ord x m j)) ≤ x (ix2 m (ord x m i)) := by
  have := sortedFrom_noInversion (fun k k' => FloatOps.cmpfTotal (F := Ideal) (φ := .f32) .gt (x (ix2 m k)) (x (ix2 m k')) == 1#1)
    (fun k k' => FloatOps.cmpfTotal (F := Ideal) (φ := .f32) .gt (x (ix2 m k)) (x (ix2 m k')) == 1#1)
    (fun a b h => by simp only [gt_iff, decide_eq_true_eq, decide_eq_false_iff_not] at h ⊢; exact not_lt.2 h.le) (fun _ _ h => h)
    (fun a b c h h' => by simp only [gt_iff, decide_eq_false_iff_not, not_lt] at h h' ⊢; exact h.trans h') i j h
  unfold ord
  simp only [gt_iff, decide_eq_false_iff_not, not_lt] at this ⊢
  exact this

theorem along_eq (J : (⟨2, ![R, C]⟩ : Shape).Idx) (k : Fin C) : J.along 1 k = ix2 (J 0) k := by
  funext a
  unfold Shape.Idx.along
  fin_cases a
  · exact Function.update_of_ne (show (0 : Fin 2) ≠ 1 by decide) _ _
  · exact Function.update_self _ _ _

theorem ord_surj (x : (⟨2, ![R, C]⟩ : Shape).Idx → EReal) (m : Fin R) : Function.Surjective (ord x m) := sortedFrom_surjective _

variable (x : FVec Ideal ⟨2, ![R, C]⟩ .f32) (h : (⟨2, ![R, C]⟩ : Shape).Slices (fun _ => 0) ⟨2, ![R, K]⟩) (hK : K ≤ C)

theorem values_at (m : Fin R) (j : Fin K) :
    (Host.topK ⟨2, ![R, K]⟩ 1 (FloatOps.cmpfTotal (F := Ideal) (φ := .f32) .gt) x h).1 (ix2 m j) = x (ix2 m (ord x m (j.castLE hK))) := by
  unfold Host.topK Host.sort2 ord
  pointwise
  simp only [along_eq]
  rfl

theorem places_at (m : Fin R) (j : Fin K) :
    (Host.topK ⟨2, ![R, K]⟩ 1 (FloatOps.cmpfTotal (F := Ideal) (φ := .f32) .gt) x h).2 (ix2 m j) = BitVec.ofNat 32 (ord x m (j.castLE hK)).val := by
  unfold Host.topK Host.sort2 ord
  pointwise
  simp only [along_eq]
  rfl

end Cert.TopK
end
-- ==== Proof.Math.Order.lean ====
/- The ten nearest anchors of a box, from the decreasing order of the negated distances. -/
module

public import proofs.«01_k».proof.Proof.Math.TopK

@[expose] public section

noncomputable section

namespace Cert.TopK

open Idealize.ShloMosaic Cert.Chunks

variable (a : Fin 20000 → Fin 4 → ℝ) (g : Fin 100 → Fin 4 → ℝ)

theorem d2_nonneg (A B : Fin 4 → ℝ) : 0 ≤ Spec.d2 A B := add_nonneg (mul_self_nonneg _) (mul_self_nonneg _)

/-- The negated distances, boxes by anchors. -/
def negDist : (⟨2, ![100, 20000]⟩ : Shape).Idx → EReal := fun i => ((-√(Spec.d2 (a (i 1)) (g (i 0))) : ℝ) : EReal)

/-- The ten nearest anchors of each box, nearest first. -/
def near (m : Fin 100) (i : Fin 10) : Fin 20000 := ord (negDist a g) m (i.castLE (by norm_num))

theorem negDist_le (m : Fin 100) (n n' : Fin 20000) :
    negDist a g (ix2 m n) ≤ negDist a g (ix2 m n') ↔ Spec.d2 (a n') (g m) ≤ Spec.d2 (a n) (g m) := by
  show ((-√(Spec.d2 (a n) (g m)) : ℝ) : EReal) ≤ ((-√(Spec.d2 (a n') (g m)) : ℝ) : EReal) ↔ _
  rw [EReal.coe_le_coe_iff, neg_le_neg_iff, Real.sqrt_le_sqrt_iff (d2_nonneg _ _)]

theorem nearest (m : Fin 100)
    (h : ∀ j : Fin 9, negDist a g (ix2 m (near a g m (⟨1 + j.val, by omega⟩ : Fin 10))) < negDist a g (ix2 m (near a g m (⟨j.val, by omega⟩ : Fin 10)))) :
    Nearest (fun n => Spec.d2 (a n) (g m)) (near a g m) where
  lt i j hij := by
    have h1 : i.val < 9 := by omega
    have hs : Spec.d2 (a (near a g m i)) (g m) < Spec.d2 (a (near a g m (⟨1 + i.val, by omega⟩ : Fin 10))) (g m) :=
      lt_of_not_ge fun hle => absurd (h ⟨i.val, h1⟩) (not_lt.2 ((negDist_le a g m _ _).2 hle))
    refine lt_of_lt_of_le hs ?_
    rcases eq_or_lt_of_le (show (⟨1 + i.val, by omega⟩ : Fin 10) ≤ j from Fin.le_def.2 (by have := Fin.lt_def.1 hij; show 1 + i.val ≤ j.val; omega)) with he | hl
    · rw [he]
    · exact (negDist_le a g m _ _).1 (ord_le (negDist a g) m (i := (⟨1 + i.val, by omega⟩ : Fin 10).castLE (by norm_num)) (j := j.castLE (by norm_num)) hl)
  out n := by
    obtain ⟨k, rfl⟩ := ord_surj (negDist a g) m n
    by_cases hk : k.val < 10
    · exact Or.inl ⟨⟨k.val, hk⟩, rfl⟩
    · rcases eq_or_lt_of_le (show (9 : Fin 10).castLE (by norm_num : 10 ≤ 20000) ≤ k from by show 9 ≤ k.val; omega) with he | hl
      · exact Or.inr (by rw [← he]; exact le_refl _)
      · exact Or.inr ((negDist_le a g m _ _).1 (ord_le (negDist a g) m hl))

/-- A negated distance as it is computed. -/
theorem negDist_of (A B : Fin 4 → ℝ) :
    -Ideal.sqrt (∑ x : Fin 2,
      (Ideal.div ((A ⟨x.val, by omega⟩ : EReal) + (A ⟨2 + x.val, by omega⟩ : EReal)) (Ideal.ofBits FTy.f32 0x40000000#32)
        - Ideal.div ((B ⟨x.val, by omega⟩ : EReal) + (B ⟨2 + x.val, by omega⟩ : EReal)) (Ideal.ofBits FTy.f32 0x40000000#32))
      * (Ideal.div ((A ⟨x.val, by omega⟩ : EReal) + (A ⟨2 + x.val, by omega⟩ : EReal)) (Ideal.ofBits FTy.f32 0x40000000#32)
        - Ideal.div ((B ⟨x.val, by omega⟩ : EReal) + (B ⟨2 + x.val, by omega⟩ : EReal)) (Ideal.ofBits FTy.f32 0x40000000#32)))
      = ((-√(Spec.d2 A B) : ℝ) : EReal) := by
  rw [Fin.sum_univ_two, Lift.two]
  simp only [Lift.add_coe, Lift.div_coe _ _ (two_ne_zero (α := ℝ)), Lift.sub_coe, Lift.mul_coe]
  change -Ideal.sqrt ((Spec.d2 A B : ℝ) : EReal) = _
  rw [Lift.sqrt_coe (d2_nonneg _ _), Lift.neg_coe]

end Cert.TopK
end
-- ==== Proof.Pre.lean ====
/- What the precondition says: finite logits, bounded boxes, and the ten nearest anchors of each box in strict order. -/
module

public import proofs.«01_k».proof.Pre_finite_bounded_untied
public import proofs.«01_k».proof.Proof.Math.Order

@[expose] public section

set_option maxRecDepth 16384
noncomputable section

namespace Cert.Pre_finite_bounded_untied

open Idealize.ShloMosaic

theorem facts : Facts where
  slices_S20000x4_S20000x2_0_0 := by decide
  slices_S20000x4_S20000x2_0_2 := by decide
  bcast_S_S20000x2 := by decide
  slices_S100x4_S100x2_0_0 := by decide
  slices_S100x4_S100x2_0_2 := by decide
  bcast_S_S100x2 := by decide
  bcast_S20000x2_S20000x1x2_0_2 := by decide
  bcast_S100x2_S1x100x2_1_2 := by decide
  bcast_S20000x1x2_S20000x100x2_0_1_2 := by decide
  bcast_S1x100x2_S20000x100x2_0_1_2 := by decide
  reducesTo_S20000x100x2_S20000x100_d2 := by decide
  h_S_ := by decide
  transposes_S20000x100_S100x20000_1_0 := by decide
  sliceFits_S100x20000_S100x10 := by decide
  bcast_S_S20000x80 := by decide
  bcast_S_S20000x4x16 := by decide
  bcast_S_S20000x4 := by decide
  bcast_S_S100x4 := by decide
  slices_S100x10_S100x9_0_0 := by decide
  slices_S100x10_S100x9_0_1 := by decide

variable [Facts]
variable (a0 : FVec Ideal S20000x80 .f32) (a1 : FVec Ideal S20000x4x16 .f32) (a2 : FVec Ideal S20000x4 .f32) (a3 : FVec Ideal S100x4 .f32) (a4 : IVec S100 32)

theorem real_of_abs_lt {v : EReal} (h : max v (-v) < ⊤) : ((v.toReal : ℝ) : EReal) = v := by
  refine EReal.coe_toReal (fun hv => ?_) (fun hv => ?_)
  · subst hv; simp at h
  · subst hv; simp at h

theorem abs_le_of {v : EReal} {b : ℝ} (h : max v (-v) ≤ (b : EReal)) : ((v.toReal : ℝ) : EReal) = v ∧ |v.toReal| ≤ b := by
  have hr := real_of_abs_lt (lt_of_le_of_lt h (EReal.coe_lt_top b))
  refine ⟨hr, ?_⟩
  rw [← hr, Lift.neg_coe, Lift.max_coe, EReal.coe_le_coe_iff] at h
  exact h

theorem one_of_decide {P : Prop} [Decidable P] (h : BitVec.ofBool (decide P) = 1#1) : P := by
  by_contra hn
  rw [decide_eq_false hn] at h
  exact absurd h (by decide)

theorem cls_real (h : (fn a0 a1 a2 a3 a4).1 = fun _ => 1#1) (n : Fin 20000) (c : Fin 80) : (((a0 (ix2 n c)).toReal : ℝ) : EReal) = a0 (ix2 n c) := by
  have := congrFun h (ix2 n c)
  unfold fn fn_part1 at this
  pointwise at this
  rw [Lift.top] at this
  exact real_of_abs_lt (one_of_decide this)

theorem reg_real (h : (fn a0 a1 a2 a3 a4).2.1 = fun _ => 1#1) (n : Fin 20000) (s : Fin 4) (b : Fin 16) :
    (((a1 (ix3 n s b)).toReal : ℝ) : EReal) = a1 (ix3 n s b) := by
  have := congrFun h (ix3 n s b)
  unfold fn fn_part1 at this
  pointwise at this
  rw [Lift.top] at this
  exact real_of_abs_lt (one_of_decide this)

theorem anc_real (h : (fn a0 a1 a2 a3 a4).2.2.1 = fun _ => 1#1) (n : Fin 20000) (s : Fin 4) :
    (((a2 (ix2 n s)).toReal : ℝ) : EReal) = a2 (ix2 n s) ∧ |(a2 (ix2 n s)).toReal| ≤ 300000 := by
  have := congrFun h (ix2 n s)
  unfold fn fn_part1 at this
  pointwise at this
  rw [Lift.bound] at this
  exact abs_le_of (one_of_decide this)

theorem box_real (h : (fn a0 a1 a2 a3 a4).2.2.2.1 = fun _ => 1#1) (n : Fin 100) (s : Fin 4) :
    (((a3 (ix2 n s)).toReal : ℝ) : EReal) = a3 (ix2 n s) ∧ |(a3 (ix2 n s)).toReal| ≤ 300000 := by
  have := congrFun h (ix2 n s)
  unfold fn fn_part1 at this
  pointwise at this
  rw [Lift.bound] at this
  exact abs_le_of (one_of_decide this)

/-- The negated distances between centres. -/
def dist : FVec Ideal S100x20000 .f32 :=
  Host.negf (transpose S100x20000 [1, 0] (fn_norm (subf
    (broadcastInDim S20000x100x2 ![0, 1, 2] Facts.bcast_S20000x1x2_S20000x100x2_0_1_2 (broadcastInDim S20000x1x2 ![0, 2] Facts.bcast_S20000x2_S20000x1x2_0_2
      (Host.divf (addf (extractStridedSlice S20000x2 ![0, 0] a2 Facts.slices_S20000x4_S20000x2_0_0) (extractStridedSlice S20000x2 ![0, 2] a2 Facts.slices_S20000x4_S20000x2_0_2))
        (broadcastInDim S20000x2 ![] Facts.bcast_S_S20000x2 (constant S_ FTy.f32 0x40000000#32)))))
    (broadcastInDim S20000x100x2 ![0, 1, 2] Facts.bcast_S1x100x2_S20000x100x2_0_1_2 (broadcastInDim S1x100x2 ![1, 2] Facts.bcast_S100x2_S1x100x2_1_2
      (Host.divf (addf (extractStridedSlice S100x2 ![0, 0] a3 Facts.slices_S100x4_S100x2_0_0) (extractStridedSlice S100x2 ![0, 2] a3 Facts.slices_S100x4_S100x2_0_2))
        (broadcastInDim S100x2 ![] Facts.bcast_S_S100x2 (constant S_ FTy.f32 0x40000000#32)))))))
    Facts.transposes_S20000x100_S100x20000_1_0)

theorem dist_eq (a : Fin 20000 → Fin 4 → ℝ) (g : Fin 100 → Fin 4 → ℝ) (ha : ∀ n s, a2 (ix2 n s) = (a n s : EReal)) (hg : ∀ m s, a3 (ix2 m s) = (g m s : EReal)) :
    dist a2 a3 = TopK.negDist a g := by
  funext i
  obtain ⟨m, n, rfl⟩ : ∃ (m : Fin 100) (n : Fin 20000), i = ix2 m n := ⟨i 0, i 1, by funext b; fin_cases b <;> rfl⟩
  unfold dist fn_norm
  pointwise
  simp only [ha, hg]
  exact TopK.negDist_of (a n) (g m)

/-- The ten least distances of each box, negated. -/
def values : FVec Ideal S100x10 .f32 := (Host.topK S100x10 1 (FloatOps.cmpfTotal .gt) (dist a2 a3) Facts.sliceFits_S100x20000_S100x10).1

theorem fifth_eq : (fn a0 a1 a2 a3 a4).2.2.2.2
    = cmpf .ogt (extractStridedSlice S100x9 ![0, 0] (values a2 a3) Facts.slices_S100x10_S100x9_0_0) (extractStridedSlice S100x9 ![0, 1] (values a2 a3) Facts.slices_S100x10_S100x9_0_1) := rfl

theorem values_eq (a : Fin 20000 → Fin 4 → ℝ) (g : Fin 100 → Fin 4 → ℝ) (ha : ∀ n s, a2 (ix2 n s) = (a n s : EReal)) (hg : ∀ m s, a3 (ix2 m s) = (g m s : EReal))
    (m : Fin 100) (j : Fin 10) : values a2 a3 (ix2 m j) = TopK.negDist a g (ix2 m (TopK.near a g m j)) := by
  unfold values TopK.near
  rw [TopK.values_at _ _ (by norm_num), dist_eq a2 a3 a g ha hg]

/-- What the comparison of neighbouring entries says at a place. -/
theorem neighbours (v : FVec Ideal S100x10 .f32) (m : Fin 100) (j : Fin 9)
    (h : cmpf .ogt (extractStridedSlice S100x9 ![0, 0] v Facts.slices_S100x10_S100x9_0_0) (extractStridedSlice S100x9 ![0, 1] v Facts.slices_S100x10_S100x9_0_1) (ix2 m j) = 1#1) :
    v (ix2 m (⟨1 + j.val, by omega⟩ : Fin 10)) < v (ix2 m (⟨j.val, by omega⟩ : Fin 10)) := by
  pointwise at h
  exact one_of_decide h

theorem untied (a : Fin 20000 → Fin 4 → ℝ) (g : Fin 100 → Fin 4 → ℝ) (ha : ∀ n s, a2 (ix2 n s) = (a n s : EReal)) (hg : ∀ m s, a3 (ix2 m s) = (g m s : EReal))
    (h : (fn a0 a1 a2 a3 a4).2.2.2.2 = fun _ => 1#1) (m : Fin 100) (j : Fin 9) :
    TopK.negDist a g (ix2 m (TopK.near a g m (⟨1 + j.val, by omega⟩ : Fin 10))) < TopK.negDist a g (ix2 m (TopK.near a g m (⟨j.val, by omega⟩ : Fin 10))) :=
  lt_of_eq_of_lt (values_eq a2 a3 a g ha hg m _).symm
    (lt_of_lt_of_eq (neighbours (values a2 a3) m j (congrFun ((fifth_eq a0 a1 a2 a3 a4).symm.trans h) (ix2 m j))) (values_eq a2 a3 a g ha hg m _))

end Cert.Pre_finite_bounded_untied
end
-- ==== Proof.Kernel.Scan.lean ====
/- The first pass over the anchors' chunks: what one trip stores (squared centre distances and overlaps) and how it
   updates the running minimum. -/
module

public import proofs.«01_k».proof.Proof.Gen.KernelIdeal.Loops
public import proofs.«01_k».proof.Proof.Math.Chunks
public import Idealize.ShloMosaic.Lib.Tactic
public import Idealize.ShloMosaic.Lib.WritesUnit

@[expose] public section

set_option maxRecDepth 16384
noncomputable section

namespace Cert.KernelIdeal.Kern

open Cert.Chunks Cert.KernelIdeal Cert.KernelIdeal.Gen Idealize.ShloMosaic Idealize.ShloMosaic.TcCoe Idealize.ShloMosaic.Tactic

/-- A load at a unit-stride rectangle of a two-axis buffer, read at an index. -/
theorem readAt_two {sig : RefSig} {κ : Kind} {sp : Space} {e : EltTy} {Val : EltTy → Type} {a b p q : ℕ}
    (v : View sig κ sp ⟨2, ![a, b]⟩ e) (f : v.ty.Contents Val) {off : Fin 2 → ℕ} {o0 o1 : ℕ} (h : off = ![o0, o1])
    (inb : ∀ x, off x + (![p, q] : Fin 2 → ℕ) x ≤ (![a, b] : Fin 2 → ℕ) x) (i : Fin p) (j : Fin q) (h0 : o0 + i.val < a) (h1 : o1 + j.val < b) :
    v.readAt Val (Rect.unit (s := ⟨2, ![a, b]⟩) off ![p, q] inb).toLoadRect f (ix2 i j) = v.read Val f (ix2 ⟨o0 + i.val, h0⟩ ⟨o1 + j.val, h1⟩) := by
  subst h
  refine congrArg (v.read Val f) (funext fun x => Fin.ext ?_)
  match x with
  | ⟨0, _⟩ => show o0 + 1 * i.val = o0 + i.val; omega
  | ⟨1, _⟩ => show o1 + 1 * j.val = o1 + j.val; omega

section
variable (𝒱 : Variants) (c : Dev nD) (bd : Option 𝒱.V) (arg0 : Memref sig .tc .vmem S8x20480 .f32) (harg0 : arg0.IsWhole) (arg1 : Memref sig .tc .vmem S104x128 .f32) (harg1 : arg1.IsWhole) (arg2 : Memref sig .tc .vmem S80x20480 .f32) (harg2 : arg2.IsWhole) (arg3 : Memref sig .tc .vmem S64x20480 .f32) (harg3 : arg3.IsWhole) (arg4 : Memref sig .tc .vmem S8x128 .f32) (harg4 : arg4.IsWhole) (arg5 : Memref sig .tc .vmem S104x20480 .f32) (harg5 : arg5.IsWhole) (arg6 : Memref sig .tc .vmem S104x20480 .f32) (harg6 : arg6.IsWhole)
variable (v0 v2 v4 v6 : FVec Ideal S104x1 .f32) (X0 : BufTy.Contents (Elt Ideal) arg0.view.ty)
variable (A : Fin 20480 → Fin 4 → ℝ) (G : Fin 104 → Fin 4 → ℝ)

/-- What the scan is run on: the four coordinate rows of the anchors and the four coordinate columns of the boxes. -/
structure ScanIn : Prop where
  a : ∀ (r : Fin 4) (n : Fin 20480), arg0.view.read (Elt Ideal) X0 (ix2 ⟨r.val, by omega⟩ n) = (A n r : EReal)
  g0 : ∀ m : Fin 104, v0 (ix2 m 0) = (G m 0 : EReal)
  g1 : ∀ m : Fin 104, v2 (ix2 m 0) = (G m 1 : EReal)
  g2 : ∀ m : Fin 104, v4 (ix2 m 0) = (G m 2 : EReal)
  g3 : ∀ m : Fin 104, v6 (ix2 m 0) = (G m 3 : EReal)

variable (k : Fin k0_t1_loop.trips)

/-- Row 0 of the anchors' chunk. -/
abbrev row0 : FVec Ideal S1x2048 .f32 := View.readAt (Elt Ideal) arg0.view (Rect.unit (s := S8x20480) (k0_off1 k) S1x2048.size (k0_off1_inb k)).toLoadRect X0
/-- Row 1. -/
abbrev row1 : FVec Ideal S1x2048 .f32 := View.readAt (Elt Ideal) arg0.view (Rect.unit (s := S8x20480) (k0_off2 k) S1x2048.size (k0_off2_inb k)).toLoadRect X0
/-- Row 2. -/
abbrev row2 : FVec Ideal S1x2048 .f32 := View.readAt (Elt Ideal) arg0.view (Rect.unit (s := S8x20480) (k0_off3 k) S1x2048.size (k0_off3_inb k)).toLoadRect X0
/-- Row 3. -/
abbrev row3 : FVec Ideal S1x2048 .f32 := View.readAt (Elt Ideal) arg0.view (Rect.unit (s := S8x20480) (k0_off4 k) S1x2048.size (k0_off4_inb k)).toLoadRect X0

/-- The chunk's squared distances. -/
abbrev dist5 : FVec Ideal S104x2048 .f32 := k0_pay9 (k0_pay64 v0 v4) (k0_pay65 v2 v6) (row0 arg0 X0 k) (row1 arg0 X0 k) (row2 arg0 X0 k) (row3 arg0 X0 k)

/-- The chunk's squared distances, as stored. -/
abbrev store5 : FVec Ideal S104x2048 .f32 := k0_pay10 (k0_pay64 v0 v4) (k0_pay65 v2 v6) (row0 arg0 X0 k) (row1 arg0 X0 k) (row2 arg0 X0 k) (row3 arg0 X0 k)

/-- The chunk's overlaps, as stored. -/
abbrev store6 : FVec Ideal S104x2048 .f32 :=
  k0_pay68 v0 v2 v4 v6 (k0_pay5 (row0 arg0 X0 k)) (k0_pay6 (row1 arg0 X0 k)) (k0_pay7 (row2 arg0 X0 k)) (k0_pay8 (row3 arg0 X0 k))
    (k0_pay11 (k0_pay60 v0) (k0_pay62 v4) (row0 arg0 X0 k) (row2 arg0 X0 k)) (k0_pay12 (k0_pay63 v6) (row3 arg0 X0 k)) (k0_pay13 (k0_pay61 v2) (row1 arg0 X0 k))

theorem trip1_acc (acc : FVec Ideal S104x1 .f32) :
    (trip_k0_t1 (F := Ideal) 𝒱 c bd arg0 harg0 arg1 harg1 arg2 harg2 arg3 harg3 arg4 harg4 arg5 harg5 arg6 harg6 v0 v2 v4 v6 X0 k).1 acc
      = k0_pay69 acc (dist5 arg0 v0 v2 v4 v6 X0 k) := by
  unfold trip_k0_t1; rfl

theorem trip1_five (acc : FVec Ideal S104x1 .f32) :
    (trip_k0_t1 (F := Ideal) 𝒱 c bd arg0 harg0 arg1 harg1 arg2 harg2 arg3 harg3 arg4 harg4 arg5 harg5 arg6 harg6 v0 v2 v4 v6 X0 k).2.1 acc
      = [⟨Rect.unit (s := S104x20480) (k0_off5 k) S104x2048.size (k0_off5_inb k), store5 arg0 v0 v2 v4 v6 X0 k⟩] := by
  unfold trip_k0_t1; rfl

theorem trip1_six (acc : FVec Ideal S104x1 .f32) :
    (trip_k0_t1 (F := Ideal) 𝒱 c bd arg0 harg0 arg1 harg1 arg2 harg2 arg3 harg3 arg4 harg4 arg5 harg5 arg6 harg6 v0 v2 v4 v6 X0 k).2.2.1 acc
      = [⟨Rect.unit (s := S104x20480) (k0_off5 k) S104x2048.size (k0_off5_inb k), store6 arg0 v0 v2 v4 v6 X0 k⟩] := by
  unfold trip_k0_t1; rfl

variable {arg0 v0 v2 v4 v6 X0 A G}

theorem k_lt (k : Fin k0_t1_loop.trips) : k.val < 10 := Nat.lt_of_lt_of_le k.isLt k0_t1_abs.2.1

theorem row0_at (h : ScanIn arg0 v0 v2 v4 v6 X0 A G) (j : Fin 2048) : row0 arg0 X0 k (ix2 0 j) = (A (col k (k_lt k) j) 0 : EReal) :=
  (readAt_two _ _ (k0_off1_eq k) _ 0 j (by decide) (by have := k_lt k; omega)).trans (h.a 0 (col k (k_lt k) j))
theorem row1_at (h : ScanIn arg0 v0 v2 v4 v6 X0 A G) (j : Fin 2048) : row1 arg0 X0 k (ix2 0 j) = (A (col k (k_lt k) j) 1 : EReal) :=
  (readAt_two _ _ (k0_off2_eq k) _ 0 j (by decide) (by have := k_lt k; omega)).trans (h.a 1 (col k (k_lt k) j))
theorem row2_at (h : ScanIn arg0 v0 v2 v4 v6 X0 A G) (j : Fin 2048) : row2 arg0 X0 k (ix2 0 j) = (A (col k (k_lt k) j) 2 : EReal) :=
  (readAt_two _ _ (k0_off3_eq k) _ 0 j (by decide) (by have := k_lt k; omega)).trans (h.a 2 (col k (k_lt k) j))
theorem row3_at (h : ScanIn arg0 v0 v2 v4 v6 X0 A G) (j : Fin 2048) : row3 arg0 X0 k (ix2 0 j) = (A (col k (k_lt k) j) 3 : EReal) :=
  (readAt_two _ _ (k0_off4_eq k) _ 0 j (by decide) (by have := k_lt k; omega)).trans (h.a 3 (col k (k_lt k) j))

theorem dist5_at (h : ScanIn arg0 v0 v2 v4 v6 X0 A G) (m : Fin 104) (j : Fin 2048) :
    dist5 arg0 v0 v2 v4 v6 X0 k (ix2 m j) = (Spec.d2 (A (col k (k_lt k) j)) (G m) : EReal) := by
  unfold dist5 k0_pay9 k0_pay64 k0_pay65 k0_pay60 k0_pay61 k0_pay62 k0_pay63 k0_pay5 k0_pay6 k0_pay7 k0_pay8
  pointwise
  rw [row0_at k h, row1_at k h, row2_at k h, row3_at k h, h.g0, h.g1, h.g2, h.g3]
  simp only [Lift.half, Lift.add_coe, Lift.mul_coe, Lift.sub_coe]
  congr 1
  unfold Spec.d2 Spec.cx Spec.cy
  ring

theorem store5_at (h : ScanIn arg0 v0 v2 v4 v6 X0 A G) (m : Fin 104) (j : Fin 2048) :
    store5 arg0 v0 v2 v4 v6 X0 k (ix2 m j) = (Spec.d2 (A (col k (k_lt k) j)) (G m) : EReal) := by
  rw [← dist5_at k h]
  unfold store5 k0_pay10
  pointwise

theorem store6_at (h : ScanIn arg0 v0 v2 v4 v6 X0 A G) (m : Fin 104) (j : Fin 2048) :
    store6 arg0 v0 v2 v4 v6 X0 k (ix2 m j) = (Spec.iou (A (col k (k_lt k) j)) (G m) : EReal) := by
  unfold store6 k0_pay68 k0_pay11 k0_pay12 k0_pay13 k0_pay60 k0_pay61 k0_pay62 k0_pay63 k0_pay5 k0_pay6 k0_pay7 k0_pay8
  pointwise
  rw [row0_at k h, row1_at k h, row2_at k h, row3_at k h, h.g0, h.g1, h.g2, h.g3, Lift.eps, ← Lift.iou]

theorem min69_at (acc : FVec Ideal S104x1 .f32) (d : FVec Ideal S104x2048 .f32) (m : Fin 104) :
    k0_pay69 acc d (ix2 m 0) = min (acc (ix2 m 0)) (Finset.fold min ⊤ (fun j => d (ix2 m j)) Finset.univ) := by
  unfold k0_pay69
  pointwise
  rw [Lift.top]

end

end Cert.KernelIdeal.Kern

end
-- ==== Proof.Kernel.ScanLoop.lean ====
/- The first pass as a whole: after it the two scratch arrays hold every squared distance and every overlap, and the
   carried column holds each box's least squared distance. -/
module

public import proofs.«01_k».proof.Proof.Kernel.Scan

@[expose] public section

set_option maxRecDepth 16384
noncomputable section

namespace Cert.KernelIdeal.Kern

open Cert.Chunks Cert.KernelIdeal Cert.KernelIdeal.Gen Idealize.ShloMosaic Idealize.ShloMosaic.TcCoe Idealize.ShloMosaic.Tactic

variable (𝒱 : Variants) (c : Dev nD) (bd : Option 𝒱.V) (arg0 : Memref sig .tc .vmem S8x20480 .f32) (harg0 : arg0.IsWhole) (arg1 : Memref sig .tc .vmem S104x128 .f32) (harg1 : arg1.IsWhole) (arg2 : Memref sig .tc .vmem S80x20480 .f32) (harg2 : arg2.IsWhole) (arg3 : Memref sig .tc .vmem S64x20480 .f32) (harg3 : arg3.IsWhole) (arg4 : Memref sig .tc .vmem S8x128 .f32) (harg4 : arg4.IsWhole) (arg5 : Memref sig .tc .vmem S104x20480 .f32) (harg5 : arg5.IsWhole) (arg6 : Memref sig .tc .vmem S104x20480 .f32) (harg6 : arg6.IsWhole)
variable (v0 v2 v4 v6 : FVec Ideal S104x1 .f32) (X0 : BufTy.Contents (Elt Ideal) arg0.view.ty)
variable {A : Fin 20480 → Fin 4 → ℝ} {G : Fin 104 → Fin 4 → ℝ}

/-- The state before trip `k`. -/
abbrev St1 (k : ℕ) := st_k0_t1 (F := Ideal) 𝒱 c bd arg0 harg0 arg1 harg1 arg2 harg2 arg3 harg3 arg4 harg4 arg5 harg5 arg6 harg6 v0 v2 v4 v6 X0 k0_pay67 k

theorem trips1 : k0_t1_loop.trips = 10 := by decide +kernel

/-- `y` is a lower bound of `D` over the columns of the first `k` chunks, chunk by chunk. -/
theorem below_succ {D : Fin 20480 → EReal} {k : ℕ} (hk : k < 10) (y : EReal) :
    (∀ n : Fin 20480, n.val < 2048 * (k + 1) → y ≤ D n)
      ↔ (∀ n : Fin 20480, n.val < 2048 * k → y ≤ D n) ∧ ∀ j : Fin 2048, y ≤ D (col k hk j) := by
  constructor
  · intro h
    exact ⟨fun n hn => h n (by omega), fun j => h _ (by show 2048 * k + j.val < _; omega)⟩
  · rintro ⟨h1, h2⟩ n hn
    by_cases hlt : n.val < 2048 * k
    · exact h1 n hlt
    · have := h2 ⟨n.val - 2048 * k, by omega⟩
      have e : col k hk ⟨n.val - 2048 * k, by omega⟩ = n := Fin.ext (by show 2048 * k + (n.val - 2048 * k) = n.val; omega)
      rwa [e] at this

/-- One chunk's store leaves the array right on the chunks stored so far. -/
theorem filled_succ (v : View sig .tc .vmem S104x20480 .f32) (f : v.ty.Contents (Elt Ideal)) (D : Fin 104 → Fin 20480 → EReal)
    {k : ℕ} (hk : k < 10) {off : Fin 2 → ℕ} (ho : off = ![0, 2048 * k])
    (inb : ∀ a, off a + S104x2048.size a ≤ S104x20480.size a) (w : FVec Ideal S104x2048 .f32) (L : List (View.Piece (Elt Ideal) S104x20480 .f32))
    (hw : ∀ m j, w (ix2 m j) = D m (col k hk j))
    (ih : ∀ (m : Fin 104) (n : Fin 20480), n.val < 2048 * k → v.read (Elt Ideal) (v.writes (Elt Ideal) f L) (ix2 m n) = D m n)
    (m : Fin 104) (n : Fin 20480) (hn : n.val < 2048 * (k + 1)) :
    v.read (Elt Ideal) (v.writes (Elt Ideal) f ((⟨Rect.unit (s := S104x20480) off S104x2048.size inb, w⟩ : View.Piece (Elt Ideal) S104x20480 .f32) :: L)) (ix2 m n) = D m n := by
  by_cases hlt : n.val < 2048 * k
  · rw [View.read_writes_cons_unit_of_not_mem v f inb w L (ix2 m n) ho (1 : Fin 2) (Or.inl hlt)]
    exact ih m n hlt
  · rw [View.read_writes_cons_unit_of_mem v f inb w L (ix2 m n) (ix2 m ⟨n.val - 2048 * k, by omega⟩) ho ?_, hw]
    · exact congrArg (D m) (Fin.ext (by show 2048 * k + (n.val - 2048 * k) = n.val; omega))
    · intro a
      match a with
      | ⟨0, _⟩ => show m.val = 0 + m.val; omega
      | ⟨1, _⟩ => show n.val = 2048 * k + (n.val - 2048 * k); omega

theorem st1_inv (h : ScanIn arg0 v0 v2 v4 v6 X0 A G) : ∀ k : ℕ, k ≤ 10 →
    (∀ (m : Fin 104) (y : EReal), y ≤ (St1 𝒱 c bd arg0 harg0 arg1 harg1 arg2 harg2 arg3 harg3 arg4 harg4 arg5 harg5 arg6 harg6 v0 v2 v4 v6 X0 k).1 (ix2 m 0)
      ↔ ∀ n : Fin 20480, n.val < 2048 * k → y ≤ (Spec.d2 (A n) (G m) : EReal))
    ∧ (∀ (f : arg5.view.ty.Contents (Elt Ideal)) (m : Fin 104) (n : Fin 20480), n.val < 2048 * k →
        arg5.view.read (Elt Ideal) (arg5.view.writes (Elt Ideal) f (St1 𝒱 c bd arg0 harg0 arg1 harg1 arg2 harg2 arg3 harg3 arg4 harg4 arg5 harg5 arg6 harg6 v0 v2 v4 v6 X0 k).2.1) (ix2 m n) = (Spec.d2 (A n) (G m) : EReal))
    ∧ (∀ (f : arg6.view.ty.Contents (Elt Ideal)) (m : Fin 104) (n : Fin 20480), n.val < 2048 * k →
        arg6.view.read (Elt Ideal) (arg6.view.writes (Elt Ideal) f (St1 𝒱 c bd arg0 harg0 arg1 harg1 arg2 harg2 arg3 harg3 arg4 harg4 arg5 harg5 arg6 harg6 v0 v2 v4 v6 X0 k).2.2) (ix2 m n) = (Spec.iou (A n) (G m) : EReal)) := by
  intro k
  induction k with
  | zero =>
    intro _
    refine ⟨fun m y => ⟨fun _ n hn => absurd hn (by omega), fun _ => ?_⟩, fun f m n hn => absurd hn (by omega), fun f m n hn => absurd hn (by omega)⟩
    have : (k0_pay67 (F := Ideal)) (ix2 m 0) = ⊤ := by unfold k0_pay67; pointwise; exact Lift.top
    show y ≤ (k0_pay67 (F := Ideal)) (ix2 m 0)
    rw [this]; exact le_top
  | succ k ih =>
    intro hk
    have hk' : k < 10 := by omega
    obtain ⟨i1, i2, i3⟩ := ih (by omega)
    have hs := st_k0_t1_succ (F := Ideal) 𝒱 c bd arg0 harg0 arg1 harg1 arg2 harg2 arg3 harg3 arg4 harg4 arg5 harg5 arg6 harg6 v0 v2 v4 v6 X0 k0_pay67 ⟨k, by rw [trips1]; exact hk'⟩
    unfold tripR_k0_t1 tripL_k0_t1 at hs
    rw [trip1_acc, trip1_five, trip1_six] at hs
    refine ⟨fun m y => ?_, fun f m n hn => ?_, fun f m n hn => ?_⟩
    · rw [below_succ hk']
      show y ≤ (st_k0_t1 (F := Ideal) 𝒱 c bd arg0 harg0 arg1 harg1 arg2 harg2 arg3 harg3 arg4 harg4 arg5 harg5 arg6 harg6 v0 v2 v4 v6 X0 k0_pay67 (k + 1)).1 (ix2 m 0) ↔ _
      rw [hs]
      show y ≤ (k0_pay69 (F := Ideal) _ _) (ix2 m 0) ↔ _
      rw [min69_at, le_min_iff, Lift.le_fold_min]
      refine and_congr (i1 m y) (forall_congr' fun j => ?_)
      rw [dist5_at _ h]
    · show arg5.view.read (Elt Ideal) (arg5.view.writes (Elt Ideal) f (st_k0_t1 (F := Ideal) 𝒱 c bd arg0 harg0 arg1 harg1 arg2 harg2 arg3 harg3 arg4 harg4 arg5 harg5 arg6 harg6 v0 v2 v4 v6 X0 k0_pay67 (k + 1)).2.1) (ix2 m n) = _
      rw [hs]
      exact filled_succ arg5.view f (fun m n => (Spec.d2 (A n) (G m) : EReal)) hk' (k0_off5_eq _) _ _ _ (fun m j => store5_at _ h m j) (i2 f) m n hn
    · show arg6.view.read (Elt Ideal) (arg6.view.writes (Elt Ideal) f (st_k0_t1 (F := Ideal) 𝒱 c bd arg0 harg0 arg1 harg1 arg2 harg2 arg3 harg3 arg4 harg4 arg5 harg5 arg6 harg6 v0 v2 v4 v6 X0 k0_pay67 (k + 1)).2.2) (ix2 m n) = _
      rw [hs]
      exact filled_succ arg6.view f (fun m n => (Spec.iou (A n) (G m) : EReal)) hk' (k0_off5_eq _) _ _ _ (fun m j => store6_at _ h m j) (i3 f) m n hn

end Cert.KernelIdeal.Kern

end
-- ==== Proof.Kernel.Nearest.lean ====
/- The passes for the ninth least distance, and the sums over the anchors no farther than that. -/
module

public import proofs.«01_k».proof.Proof.Kernel.ScanLoop

@[expose] public section

set_option maxRecDepth 16384
noncomputable section

namespace Cert.KernelIdeal.Kern

open Cert.Chunks Cert.KernelIdeal Cert.KernelIdeal.Gen Idealize.ShloMosaic Idealize.ShloMosaic.TcCoe Idealize.ShloMosaic.Tactic

variable (𝒱 : Variants) (c : Dev nD) (bd : Option 𝒱.V) (arg0 : Memref sig .tc .vmem S8x20480 .f32) (harg0 : arg0.IsWhole) (arg1 : Memref sig .tc .vmem S104x128 .f32) (harg1 : arg1.IsWhole) (arg2 : Memref sig .tc .vmem S80x20480 .f32) (harg2 : arg2.IsWhole) (arg3 : Memref sig .tc .vmem S64x20480 .f32) (harg3 : arg3.IsWhole) (arg4 : Memref sig .tc .vmem S8x128 .f32) (harg4 : arg4.IsWhole) (arg5 : Memref sig .tc .vmem S104x20480 .f32) (harg5 : arg5.IsWhole) (arg6 : Memref sig .tc .vmem S104x20480 .f32) (harg6 : arg6.IsWhole)
variable (X5 : BufTy.Contents (Elt Ideal) arg5.view.ty) (X6 : BufTy.Contents (Elt Ideal) arg6.view.ty)
variable {D I : Fin 104 → Fin 20480 → ℝ}

theorem trips2 : k0_t2_loop.trips = 8 := by decide +kernel
theorem trips3 : k0_t3_loop.trips = 10 := by decide +kernel
theorem trips4 : k0_t4_loop.trips = 10 := by decide +kernel

/-- The chunk of the distance array one inner trip loads. -/
abbrev chunk3 (k : Fin k0_t3_loop.trips) : FVec Ideal S104x2048 .f32 :=
  View.readAt (Elt Ideal) arg5.view (Rect.unit (s := S104x20480) (k0_off6 k) S104x2048.size (k0_off6_inb k)).toLoadRect X5

theorem trip3_eq (t : FVec Ideal S104x1 .f32) (k : Fin k0_t3_loop.trips) (acc : FVec Ideal S104x1 .f32) :
    (trip_k0_t3 (F := Ideal) 𝒱 c bd arg0 harg0 arg1 harg1 arg2 harg2 arg3 harg3 arg4 harg4 arg5 harg5 arg6 harg6 t X5 k).1 acc = k0_pay71 t acc (chunk3 arg5 X5 k) := by
  unfold trip_k0_t3; rfl

theorem trip2_eq (k : Fin k0_t2_loop.trips) (t : FVec Ideal S104x1 .f32) :
    (trip_k0_t2 (F := Ideal) 𝒱 c bd arg0 harg0 arg1 harg1 arg2 harg2 arg3 harg3 arg4 harg4 arg5 harg5 arg6 harg6 X5 k).1 t
      = st_k0_t3 (F := Ideal) 𝒱 c bd arg0 harg0 arg1 harg1 arg2 harg2 arg3 harg3 arg4 harg4 arg5 harg5 arg6 harg6 t X5 k0_pay70 k0_t3_loop.trips := by
  unfold trip_k0_t2; rfl

theorem min71_at (t acc : FVec Ideal S104x1 .f32) (d : FVec Ideal S104x2048 .f32) (m : Fin 104) :
    k0_pay71 t acc d (ix2 m 0)
      = min (acc (ix2 m 0)) (Finset.fold min ⊤ (fun j => if t (ix2 m 0) < d (ix2 m j) then d (ix2 m j) else ⊤) Finset.univ) := by
  unfold k0_pay71
  pointwise
  simp only [Lift.top]

variable {X5 X6}

theorem st3_inv (h5 : ∀ m n, arg5.view.read (Elt Ideal) X5 (ix2 m n) = (D m n : EReal)) (t : FVec Ideal S104x1 .f32) : ∀ k : ℕ, k ≤ 10 →
    ∀ (m : Fin 104) (y : EReal), y ≤ st_k0_t3 (F := Ideal) 𝒱 c bd arg0 harg0 arg1 harg1 arg2 harg2 arg3 harg3 arg4 harg4 arg5 harg5 arg6 harg6 t X5 k0_pay70 k (ix2 m 0)
      ↔ ∀ n : Fin 20480, n.val < 2048 * k → y ≤ (if t (ix2 m 0) < (D m n : EReal) then (D m n : EReal) else ⊤) := by
  intro k
  induction k with
  | zero =>
    intro _ m y
    refine ⟨fun _ n hn => absurd hn (by omega), fun _ => ?_⟩
    have : (k0_pay70 (F := Ideal)) (ix2 m 0) = ⊤ := by unfold k0_pay70; pointwise; exact Lift.top
    show y ≤ (k0_pay70 (F := Ideal)) (ix2 m 0)
    rw [this]; exact le_top
  | succ k ih =>
    intro hk m y
    have hk' : k < 10 := by omega
    have hs := st_k0_t3_succ (F := Ideal) 𝒱 c bd arg0 harg0 arg1 harg1 arg2 harg2 arg3 harg3 arg4 harg4 arg5 harg5 arg6 harg6 t X5 k0_pay70 ⟨k, by rw [trips3]; exact hk'⟩
    unfold tripR_k0_t3 at hs
    rw [trip3_eq] at hs
    rw [below_succ hk']
    show y ≤ st_k0_t3 (F := Ideal) 𝒱 c bd arg0 harg0 arg1 harg1 arg2 harg2 arg3 harg3 arg4 harg4 arg5 harg5 arg6 harg6 t X5 k0_pay70 (k + 1) (ix2 m 0) ↔ _
    rw [hs, min71_at, le_min_iff, Lift.le_fold_min]
    refine and_congr (ih (by omega) m y) (forall_congr' fun j => ?_)
    have e : chunk3 arg5 X5 ⟨k, by rw [trips3]; exact hk'⟩ (ix2 m j) = (D m (col k hk' j) : EReal) := by
      rw [← h5]
      refine (readAt_two _ _ (k0_off6_eq _) _ m j (by omega) (by show 2048 * k + j.val < 20480; omega)).trans ?_
      congr 2
      exact Fin.ext (by show 0 + m.val = m.val; omega)
    rw [e]

theorem st2_inv (h5 : ∀ m n, arg5.view.read (Elt Ideal) X5 (ix2 m n) = (D m n : EReal)) (t : FVec Ideal S104x1 .f32)
    (m : Fin 104) (e : Fin 10 → Fin 20480) (he : Nearest (D m) e) (ht : ∀ y : EReal, y ≤ t (ix2 m 0) ↔ ∀ n, y ≤ (D m n : EReal)) :
    ∀ (k : ℕ) (hk : k ≤ 8),
    st_k0_t2 (F := Ideal) 𝒱 c bd arg0 harg0 arg1 harg1 arg2 harg2 arg3 harg3 arg4 harg4 arg5 harg5 arg6 harg6 X5 t k (ix2 m 0) = (D m (e ⟨k, by omega⟩) : EReal) := by
  intro k
  induction k with
  | zero => intro _; exact he.first ht
  | succ k ih =>
    intro hk
    have hs := st_k0_t2_succ (F := Ideal) 𝒱 c bd arg0 harg0 arg1 harg1 arg2 harg2 arg3 harg3 arg4 harg4 arg5 harg5 arg6 harg6 X5 t ⟨k, by rw [trips2]; omega⟩
    unfold tripR_k0_t2 at hs
    rw [trip2_eq] at hs
    show st_k0_t2 (F := Ideal) 𝒱 c bd arg0 harg0 arg1 harg1 arg2 harg2 arg3 harg3 arg4 harg4 arg5 harg5 arg6 harg6 X5 t (k + 1) (ix2 m 0) = _
    rw [hs, trips3]
    refine he.next k (by omega) fun y => ?_
    rw [st3_inv (X5 := X5) 𝒱 c bd arg0 harg0 arg1 harg1 arg2 harg2 arg3 harg3 arg4 harg4 arg5 harg5 arg6 harg6 h5 _ 10 (le_refl _) m y, ih (by omega)]
    refine forall_congr' fun n => ?_
    have hn : n.val < 2048 * 10 := by omega
    by_cases hd : (D m (e ⟨k, by omega⟩) : EReal) < (D m n : EReal)
    · rw [if_pos hd]; exact ⟨fun h _ => h hn, fun h _ => h hd⟩
    · rw [if_neg hd]; exact ⟨fun _ h => absurd h hd, fun _ _ => le_top⟩

variable (X5 X6)

/-- The chunks of the two scratch arrays one trip of the sums loads. -/
abbrev chunk4d (k : Fin k0_t4_loop.trips) : FVec Ideal S104x2048 .f32 :=
  View.readAt (Elt Ideal) arg5.view (Rect.unit (s := S104x20480) (k0_off7 k) S104x2048.size (k0_off7_inb k)).toLoadRect X5
abbrev chunk4i (k : Fin k0_t4_loop.trips) : FVec Ideal S104x2048 .f32 :=
  View.readAt (Elt Ideal) arg6.view (Rect.unit (s := S104x20480) (k0_off7 k) S104x2048.size (k0_off7_inb k)).toLoadRect X6

theorem trip4_eq (t : FVec Ideal S104x1 .f32) (k : Fin k0_t4_loop.trips) (acc : FVec Ideal S104x1 .f32 × FVec Ideal S104x1 .f32 × FVec Ideal S104x1 .f32) :
    (trip_k0_t4 (F := Ideal) 𝒱 c bd arg0 harg0 arg1 harg1 arg2 harg2 arg3 harg3 arg4 harg4 arg5 harg5 arg6 harg6 t X5 X6 k).1 acc
      = (k0_pay74 t acc.1 (chunk4d arg5 X5 k) (chunk4i arg6 X6 k), k0_pay75 t acc.2.1 (chunk4d arg5 X5 k) (chunk4i arg6 X6 k), k0_pay76 t acc.2.2 (chunk4d arg5 X5 k)) := by
  unfold trip_k0_t4; rfl

theorem sel_at (t : FVec Ideal S104x1 .f32) (d : FVec Ideal S104x2048 .f32) (m : Fin 104) (j : Fin 2048) (T x : ℝ)
    (ht : t (ix2 m 0) = (T : EReal)) (hd : d (ix2 m j) = (x : EReal)) :
    k0_pay73 t d (ix2 m j) = ((if x ≤ T then 1 else 0 : ℝ) : EReal) := by
  unfold k0_pay73
  pointwise
  rw [ht, hd]
  by_cases h : x ≤ T
  · rw [if_pos h, decide_eq_true (EReal.coe_le_coe_iff.2 h)]
    exact Lift.sitofp_true
  · rw [if_neg h, decide_eq_false (mt EReal.coe_le_coe_iff.1 h)]
    exact Lift.sitofp_false

variable {X5 X6}

theorem st4_inv (h5 : ∀ m n, arg5.view.read (Elt Ideal) X5 (ix2 m n) = (D m n : EReal)) (h6 : ∀ m n, arg6.view.read (Elt Ideal) X6 (ix2 m n) = (I m n : EReal))
    (t : FVec Ideal S104x1 .f32) (m : Fin 104) (T : ℝ) (ht : t (ix2 m 0) = (T : EReal)) : ∀ k : ℕ, k ≤ 10 →
    (st_k0_t4 (F := Ideal) 𝒱 c bd arg0 harg0 arg1 harg1 arg2 harg2 arg3 harg3 arg4 harg4 arg5 harg5 arg6 harg6 t X5 X6 (k0_pay72, k0_pay72, k0_pay72) k).1 (ix2 m 0)
        = ((pre (fun n => if D m n ≤ T then I m n else 0) k : ℝ) : EReal)
    ∧ (st_k0_t4 (F := Ideal) 𝒱 c bd arg0 harg0 arg1 harg1 arg2 harg2 arg3 harg3 arg4 harg4 arg5 harg5 arg6 harg6 t X5 X6 (k0_pay72, k0_pay72, k0_pay72) k).2.1 (ix2 m 0)
        = ((pre (fun n => if D m n ≤ T then I m n * I m n else 0) k : ℝ) : EReal)
    ∧ (st_k0_t4 (F := Ideal) 𝒱 c bd arg0 harg0 arg1 harg1 arg2 harg2 arg3 harg3 arg4 harg4 arg5 harg5 arg6 harg6 t X5 X6 (k0_pay72, k0_pay72, k0_pay72) k).2.2 (ix2 m 0)
        = ((pre (fun n => if D m n ≤ T then (1 : ℝ) else 0) k : ℝ) : EReal) := by
  intro k
  induction k with
  | zero =>
    intro _
    have e : (k0_pay72 (F := Ideal)) (ix2 m 0) = 0 := by unfold k0_pay72; pointwise
    rw [pre_zero, pre_zero, pre_zero]
    exact ⟨e, e, e⟩
  | succ k ih =>
    intro hk
    have hk' : k < 10 := by omega
    obtain ⟨i1, i2, i3⟩ := ih (by omega)
    have hs := st_k0_t4_succ (F := Ideal) 𝒱 c bd arg0 harg0 arg1 harg1 arg2 harg2 arg3 harg3 arg4 harg4 arg5 harg5 arg6 harg6 t X5 X6 (k0_pay72, k0_pay72, k0_pay72) ⟨k, by rw [trips4]; exact hk'⟩
    unfold tripR_k0_t4 at hs
    rw [trip4_eq] at hs
    change st_k0_t4 (F := Ideal) 𝒱 c bd arg0 harg0 arg1 harg1 arg2 harg2 arg3 harg3 arg4 harg4 arg5 harg5 arg6 harg6 t X5 X6 (k0_pay72, k0_pay72, k0_pay72) (k + 1) = _ at hs
    have e5 : ∀ j, chunk4d arg5 X5 ⟨k, by rw [trips4]; exact hk'⟩ (ix2 m j) = (D m (col k hk' j) : EReal) := fun j => by
      rw [← h5]
      refine (readAt_two _ _ (k0_off7_eq _) _ m j (by omega) (by show 2048 * k + j.val < 20480; omega)).trans ?_
      congr 2
      exact Fin.ext (by show 0 + m.val = m.val; omega)
    have e6 : ∀ j, chunk4i arg6 X6 ⟨k, by rw [trips4]; exact hk'⟩ (ix2 m j) = (I m (col k hk' j) : EReal) := fun j => by
      rw [← h6]
      refine (readAt_two _ _ (k0_off7_eq _) _ m j (by omega) (by show 2048 * k + j.val < 20480; omega)).trans ?_
      congr 2
      exact Fin.ext (by show 0 + m.val = m.val; omega)
    rw [hs, pre_succ _ k hk', pre_succ _ k hk', pre_succ _ k hk']
    refine ⟨?_, ?_, ?_⟩
    · show k0_pay74 (F := Ideal) _ _ _ _ (ix2 m 0) = _
      unfold k0_pay74
      pointwise
      simp only [sel_at t _ m _ T _ ht (e5 _), e6, i1, Lift.mul_coe, Lift.sum_coe, Lift.add_coe, ite_mul, one_mul, zero_mul]
    · show k0_pay75 (F := Ideal) _ _ _ _ (ix2 m 0) = _
      unfold k0_pay75
      pointwise
      simp only [sel_at t _ m _ T _ ht (e5 _), e6, i2, Lift.mul_coe, Lift.sum_coe, Lift.add_coe, ite_mul, one_mul, zero_mul]
    · show k0_pay76 (F := Ideal) _ _ _ (ix2 m 0) = _
      unfold k0_pay76
      pointwise
      simp only [sel_at t _ m _ T _ ht (e5 _), i3, Lift.sum_coe, Lift.add_coe]

end Cert.KernelIdeal.Kern

end
-- ==== Proof.Math.Words.lean ====
/- Words the two programs carry beside their floats: the matched box's index as a signed word, a regression bin's
   index, and the parts of the loss that mix words and floats. -/
module

public import proofs.«01_k».proof.Proof.Math.Chunks
public import Idealize.ShloMosaic.Lib.SortNet.Extract

@[expose] public section

noncomputable section

namespace Cert.Words

open Idealize.ShloMosaic Finset

theorem toInt_ofNat {n : ℕ} (h : n < 2147483648) : (BitVec.ofNat 32 n).toInt = n := by
  rw [BitVec.toInt_eq_toNat_cond, BitVec.toNat_ofNat, Nat.mod_eq_of_lt (by omega)]
  rw [if_pos (by omega)]

theorem ofNat_inj {a b : ℕ} (ha : a < 2147483648) (hb : b < 2147483648) : BitVec.ofNat 32 a = BitVec.ofNat 32 b ↔ a = b := by
  constructor
  · intro h
    have := congrArg BitVec.toInt h
    rw [toInt_ofNat ha, toInt_ofNat hb] at this
    exact_mod_cast this
  · rintro rfl; rfl

theorem sel_ofBool {α : Type} (b : Bool) (x y : α) : Scalar.select (BitVec.ofBool b) x y = if b = true then x else y := by
  cases b <;> rfl

theorem sel_eq {α : Type} (a b : BitVec 32) (x y : α) : Scalar.select (IntOp.cmpi .eq a b) x y = if a = b then x else y := by
  show Scalar.select (BitVec.ofBool (a == b)) x y = _
  rw [sel_ofBool]; simp

theorem andi_ofBool (a b : Bool) : IntOp.andi (BitVec.ofBool a) (BitVec.ofBool b) = BitVec.ofBool (a && b) := by
  cases a <;> cases b <;> rfl

/-- The word a match is carried as: the box's index, or minus one. -/
def word {K : ℕ} (o : Option (Fin K)) : BitVec 32 := o.elim 4294967295#32 fun m => BitVec.ofNat 32 m.val

/-- The signed maximum of the positives' indices is the best positive's. -/
theorem fold_best {K : ℕ} (hK : 0 < K) (hK' : K < 2147483648) (P : Fin K → Prop) (f : Fin K → BitVec 32)
    (h1 : ∀ m, P m → f m = BitVec.ofNat 32 m.val) (h0 : ∀ m, ¬ P m → f m = 4294967295#32) :
    Finset.fold IntOp.maxsi 2147483648#32 f univ = word (Spec.best P) := by
  classical
  obtain ⟨-, hge, hmem⟩ := SortNet.fold_maxsi_spec f univ (2147483648#32)
  set r := Finset.fold IntOp.maxsi 2147483648#32 f univ with hr
  have hm1 : (4294967295#32 : BitVec 32).toInt = -1 := by decide
  have hmin : (2147483648#32 : BitVec 32).toInt = -2147483648 := by decide
  have hge' : ∀ m, -1 ≤ (f m).toInt := fun m => by
    by_cases hp : P m
    · rw [h1 m hp, toInt_ofNat (by omega)]; omega
    · rw [h0 m hp, hm1]
  obtain ⟨i, -, hi⟩ := hmem.resolve_left fun h => by
    have a := hge ⟨0, hK⟩ (mem_univ _)
    have b := hge' ⟨0, hK⟩
    rw [h, hmin] at a; omega
  cases hb : Spec.best P with
  | none => rw [hi, h0 i (Spec.best_none hb i)]; rfl
  | some m =>
    obtain ⟨hp, hmax⟩ := Spec.best_some hb
    show r = BitVec.ofNat 32 m.val
    have a := hge m (mem_univ _)
    rw [h1 m hp, toInt_ofNat (by omega)] at a
    by_cases hpi : P i
    · have hle : i.val ≤ m.val := hmax i hpi
      rw [hi, h1 i hpi, toInt_ofNat (by omega)] at a
      rw [hi, h1 i hpi]
      congr 1; omega
    · rw [hi, h0 i hpi, hm1] at a; omega

/-- A match's word is nonnegative exactly when there is one. -/
theorem sge_word {K : ℕ} (hK : K < 2147483648) (o : Option (Fin K)) :
    IntOp.cmpi .sge (word o) 0#32 = BitVec.ofBool o.isSome := by
  cases o with
  | none => show IntOp.cmpi .sge 4294967295#32 0#32 = BitVec.ofBool false; decide
  | some m =>
    show BitVec.ofBool ((0#32).sle (BitVec.ofNat 32 m.val)) = BitVec.ofBool true
    congr 1
    show decide ((0#32).toInt ≤ (BitVec.ofNat 32 m.val).toInt) = true
    refine decide_eq_true ?_
    rw [toInt_ofNat (n := m.val) (by omega)]
    exact Int.natCast_nonneg _

/-- The box read for an anchor: its match, or the first box when it has none. -/
def pick {K : ℕ} (hK : 0 < K) (o : Option (Fin K)) : Fin K := o.getD ⟨0, hK⟩

theorem max_word {K : ℕ} (hK : 0 < K) (hK' : K < 2147483648) (o : Option (Fin K)) :
    IntOp.maxsi (word o) 0#32 = BitVec.ofNat 32 (pick hK o).val := by
  cases o with
  | none => show IntOp.maxsi 4294967295#32 0#32 = 0#32; decide
  | some m =>
    apply BitVec.eq_of_toInt_eq
    rw [SortNet.toInt_maxsi]
    show max (BitVec.ofNat 32 m.val).toInt (0#32).toInt = (BitVec.ofNat 32 m.val).toInt
    rw [toInt_ofNat (by omega)]
    exact max_eq_left (by simp)

/-- A truth value as a float, as a number. -/
theorem sitofp_ofBool (b : Bool) :
    FloatOps.sitofp (F := Ideal) FTy.f32 (BitVec.setWidth 32 (BitVec.ofBool b)) = ((if b = true then 1 else 0 : ℝ) : EReal) := by
  cases b
  · rw [if_neg (by decide)]; exact Lift.sitofp_false
  · rw [if_pos rfl]; exact Lift.sitofp_true

/-- The target of a side, on the extended reals. -/
theorem tgt_coe (t : ℝ) : min (Spec.hi : EReal) (max 0 ((t : EReal) * ((1 / 8 : ℝ) : EReal))) = ((Spec.tgt t : ℝ) : EReal) := by
  rw [Lift.mul_coe, Lift.max_zero_coe, Lift.min_coe, mul_one_div]; rfl

theorem floor_coe (t : ℝ) : Ideal.liftRound Int.floor ((Spec.tgt t : ℝ) : EReal) = ((Spec.bin t : ℝ) : EReal) := by
  show (((⌊Spec.tgt t⌋ : ℤ) : ℝ) : EReal) = _
  rw [Spec.floor_tgt]; norm_num

theorem fptosi_floor (t : ℝ) : FloatOps.fptosi (F := Ideal) (φ := .f32) 32 ((Spec.bin t : ℝ) : EReal) = BitVec.ofNat 32 (Spec.bin t) :=
  Lift.fptosi_coe _ _ (Nat.cast_nonneg _) (by simp) (by have := Spec.bin_lt t; omega)

theorem sum_pick (x : Fin 16 → ℝ) (b : ℕ) (hb : b < 16) :
    ∑ i : Fin 16, Scalar.select (IntOp.cmpi .eq (BitVec.ofNat 32 i.val) (BitVec.ofNat 32 b)) (x i : EReal) 0 = (x ⟨b, hb⟩ : EReal) := by
  rw [Finset.sum_eq_single (⟨b, hb⟩ : Fin 16)]
  · rw [sel_eq, if_pos rfl]
  · intro i _ hi
    rw [sel_eq, if_neg]
    intro h
    exact hi (Fin.ext ((ofNat_inj (by omega) (by omega)).1 h))
  · intro h; exact absurd (mem_univ _) h

/-- The logarithm of a sum of exponentials taken after shifting every exponent. -/
theorem logsumexp (x : Fin 16 → ℝ) (M : ℝ) :
    Real.log (∑ b, Real.exp (x b - M)) + M = Real.log (∑ b, Real.exp (x b)) := by
  have h : (∑ b, Real.exp (x b - M)) = (∑ b, Real.exp (x b)) * Real.exp (-M) := by
    rw [Finset.sum_mul]
    exact Finset.sum_congr rfl fun b _ => by rw [← Real.exp_add, sub_eq_add_neg]
  have hpos : 0 < ∑ b, Real.exp (x b) := Finset.sum_pos (fun b _ => Real.exp_pos _) univ_nonempty
  rw [h, Real.log_mul hpos.ne' (Real.exp_pos _).ne', Real.log_exp]; ring

/-- The fold of `max` over finite numbers is finite. -/
theorem fold_max_coe {K : ℕ} (hK : 0 < K) (x : Fin K → ℝ) : ∃ M : ℝ, Finset.fold max ⊥ (fun i => (x i : EReal)) univ = (M : EReal) := by
  have h : ∀ s : Finset (Fin K), s.Nonempty → ∃ M : ℝ, Finset.fold max ⊥ (fun i => (x i : EReal)) s = (M : EReal) := by
    intro s hs
    induction hs using Finset.Nonempty.cons_induction with
    | singleton a => exact ⟨x a, by simp⟩
    | cons a s ha _ ih =>
      obtain ⟨M, hM⟩ := ih
      exact ⟨max (x a) M, by rw [Finset.fold_cons, hM, Lift.max_coe]⟩
  exact h univ ⟨⟨0, hK⟩, mem_univ _⟩

/-- One side's focal loss in the order the kernel computes it. -/
def dflK (x : Fin 16 → EReal) (e : Fin 16 → EReal) (M T : EReal) : EReal :=
  Ideal.log (∑ b, e b) + M
    - (1 - (T - Ideal.liftRound Int.floor T))
      * ∑ i : Fin 16, Scalar.select (IntOp.cmpi .eq (BitVec.ofNat 32 i.val) (FloatOps.fptosi (F := Ideal) (φ := .f32) 32 (Ideal.liftRound Int.floor T))) (x i) 0
    - (T - Ideal.liftRound Int.floor T)
      * ∑ i : Fin 16, Scalar.select (IntOp.cmpi .eq (BitVec.ofNat 32 i.val)
          (IntOp.addi (FloatOps.fptosi (F := Ideal) (φ := .f32) 32 (Ideal.liftRound Int.floor T)) 1#32)) (x i) 0

theorem dflK_coe (x : Fin 16 → ℝ) (M t : ℝ) {X E : Fin 16 → EReal} {T : EReal} (hX : ∀ b, X b = (x b : EReal))
    (hE : ∀ b, E b = ((Real.exp (x b - M) : ℝ) : EReal)) (hT : T = ((Spec.tgt t : ℝ) : EReal)) :
    dflK X E (M : EReal) T = ((Spec.dfl x t : ℝ) : EReal) := by
  have hX' : X = fun b => (x b : EReal) := funext hX
  have hE' : E = fun b => ((Real.exp (x b - M) : ℝ) : EReal) := funext hE
  subst hX' hE' hT
  have hb := Spec.bin_lt t
  have hpos : 0 < ∑ b, Real.exp (x b - M) := Finset.sum_pos (fun b _ => Real.exp_pos _) univ_nonempty
  have h1 : IntOp.addi (BitVec.ofNat 32 (Spec.bin t)) 1#32 = BitVec.ofNat 32 (Spec.bin t + 1) := by
    show BitVec.ofNat 32 (Spec.bin t) + BitVec.ofNat 32 1 = _
    rw [← BitVec.ofNat_add]
  unfold dflK
  rw [floor_coe, fptosi_floor, h1, sum_pick x _ (by omega), sum_pick x _ (by omega), Lift.sum_coe, Lift.log_coe hpos,
    Lift.one_coe]
  simp only [Lift.add_coe, Lift.sub_coe, Lift.mul_coe]
  rw [logsumexp]
  rfl

/-- The softplus term of one logit, where the kernel's padding is minus infinity. -/
def baseE (p : EReal) : EReal := max p 0 + Ideal.log (1 + Ideal.exp (0 - max p (-p)))

theorem baseE_coe (p : ℝ) : baseE (p : EReal) = ((Spec.base p : ℝ) : EReal) := by
  unfold baseE
  have hpos : 0 < 1 + Real.exp (-|p|) := by positivity
  rw [Lift.neg_coe, Lift.max_coe, Lift.max_coe_zero, Lift.zero_coe, Lift.sub_coe, Lift.exp_coe, Lift.one_coe, Lift.add_coe]
  have : (0 : ℝ) - max p (-p) = -|p| := by rw [zero_sub]; rfl
  rw [this, Lift.log_coe hpos, Lift.add_coe]; rfl

theorem baseE_bot : baseE ⊥ = 0 := by
  unfold baseE
  have h1 : (0 : EReal) - max ⊥ (-⊥) = ⊥ := by simp
  rw [h1]
  have h2 : Ideal.exp ⊥ = 0 := rfl
  rw [h2, add_zero, Lift.one_coe, Lift.log_coe one_pos, Real.log_one]
  simp

end Cert.Words

end
-- ==== Proof.Kernel.Match.lean ====
/- The threshold of each ground-truth box, and what the last pass computes of an anchor's match. -/
module

public import proofs.«01_k».proof.Proof.Kernel.Nearest
public import proofs.«01_k».proof.Proof.Math.Words

@[expose] public section

set_option maxRecDepth 16384
noncomputable section

namespace Cert.KernelIdeal.Kern

open Cert.Chunks Cert.Words Cert.KernelIdeal Cert.KernelIdeal.Gen Idealize.ShloMosaic Idealize.ShloMosaic.TcCoe Idealize.ShloMosaic.Tactic

/-- A real row's threshold, from the two sums over its nine nearest anchors. -/
theorem thr_at (s1 s2 s3 : FVec Ideal S104x1 .f32) (v : Fin 9 → ℝ) (m : Fin 104) (hm : m.val < 100)
    (h1 : s1 (ix2 m 0) = ((∑ j, v j : ℝ) : EReal)) (h2 : s2 (ix2 m 0) = ((∑ j, v j * v j : ℝ) : EReal)) (h3 : s3 (ix2 m 0) = ((9 : ℝ) : EReal)) :
    k0_pay1 k0_pay66 (k0_pay77 s3) (k0_pay78 s1 s3) (k0_pay79 s1 s2 s3) (Scalar.ofBits .f32 0x00000000#32) (ix2 m 0) = ((Spec.thr v : ℝ) : EReal) := by
  unfold k0_pay1 k0_pay79 k0_pay78 k0_pay77 k0_pay66
  pointwise
  rw [h1, h2, h3]
  have hc : IntOp.cmpi CmpIPredicate.slt (BitVec.ofNat 32 m.val) 100#32 = 1#1 := by
    show BitVec.ofBool (decide ((BitVec.ofNat 32 m.val).toInt < (100#32).toInt)) = 1#1
    rw [toInt_ofNat (by omega)]
    have : ((m.val : ℤ) < (100#32).toInt) := by show (m.val : ℤ) < 100; omega
    rw [decide_eq_true this]; rfl
  rw [hc]
  have e9 : max (9 : ℝ) 1 = 9 := by norm_num
  have e8 : max (9 - 1 : ℝ) 1 = 8 := by norm_num
  have hmean : (∑ j, v j) / 9 = Spec.mean v := rfl
  rw [Lift.one_coe, Lift.max_coe, e9, Lift.div_coe _ _ (by norm_num), hmean, Lift.sub_coe, Lift.max_coe, e8, Lift.mul_coe, Lift.mul_coe, Lift.sub_coe,
    Lift.max_coe_zero, Spec.var_eq, Lift.div_coe _ _ (by norm_num), Lift.sqrt_coe (div_nonneg (Finset.sum_nonneg fun j _ => mul_self_nonneg _) (by norm_num)),
    Lift.add_coe]
  rfl

/-- A padding row's threshold is never reached. -/
theorem thr_pad (s1 s2 s3 : FVec Ideal S104x1 .f32) (m : Fin 104) (hm : 100 ≤ m.val) :
    k0_pay1 k0_pay66 (k0_pay77 s3) (k0_pay78 s1 s3) (k0_pay79 s1 s2 s3) (Scalar.ofBits .f32 0x00000000#32) (ix2 m 0) = ⊤ := by
  unfold k0_pay1 k0_pay66
  pointwise
  have hc : IntOp.cmpi CmpIPredicate.slt (BitVec.ofNat 32 m.val) 100#32 = 0#1 := by
    show BitVec.ofBool (decide ((BitVec.ofNat 32 m.val).toInt < (100#32).toInt)) = 0#1
    rw [toInt_ofNat (by omega)]
    have : ¬ ((m.val : ℤ) < (100#32).toInt) := by show ¬ (m.val : ℤ) < 100; omega
    rw [decide_eq_false this]; rfl
  rw [hc, Lift.top]; rfl

/-- Anchor `A` is a positive of the row with box `B` and threshold `t`. -/
def PosE (A B : Fin 4 → ℝ) (t : EReal) : Prop := t ≤ (Spec.iou A B : EReal) ∧ Spec.Inside A B

theorem center_coe (x y : ℝ) : ((x : EReal) + (y : EReal)) * Ideal.ofBits .f32 0x3F000000#32 = (((x + y) / 2 : ℝ) : EReal) := by
  rw [Lift.half, Lift.add_coe, Lift.mul_coe, mul_one_div]

/-- The word of an anchor's match. -/
theorem match_at (v1 v3 v5 v7 v44 : FVec Ideal S104x1 .f32) (v62 v65 v68 v71 : Vec Ideal S1x2048 .f32) (v80 : Vec Ideal S104x2048 .f32) (j : Fin 2048)
    (A : Fin 4 → ℝ) (G : Fin 104 → Fin 4 → ℝ)
    (h1 : ∀ m, v1 (ix2 m 0) = (G m 0 : EReal)) (h3 : ∀ m, v3 (ix2 m 0) = (G m 1 : EReal))
    (h5 : ∀ m, v5 (ix2 m 0) = (G m 2 : EReal)) (h7 : ∀ m, v7 (ix2 m 0) = (G m 3 : EReal))
    (a0 : v62 (ix2 0 j) = (A 0 : EReal)) (a1 : v65 (ix2 0 j) = (A 1 : EReal)) (a2 : v68 (ix2 0 j) = (A 2 : EReal)) (a3 : v71 (ix2 0 j) = (A 3 : EReal))
    (hi : ∀ m, v80 (ix2 m j) = (Spec.iou A (G m) : EReal)) :
    k0_pay16 (F := Ideal) v1 v3 v5 v7 (iota .tc S104x1 32 [0] iota_S104x1_d0_w32) v44 v62 v65 v68 v71 v80 (ix2 0 j)
      = word (Spec.best fun m => PosE A (G m) (v44 (ix2 m 0))) := by
  unfold k0_pay16 k0_pay14 k0_pay15
  pointwise
  simp only [h1, h3, h5, h7, a0, a1, a2, a3, hi, center_coe, andi_ofBool, sel_ofBool]
  refine fold_best (by norm_num) (by norm_num) _ _ (fun m hm => ?_) (fun m hm => ?_)
  · obtain ⟨ht, i0, i2, i1, i3⟩ := hm
    refine if_pos ?_
    simp only [Bool.and_eq_true, decide_eq_true_eq, EReal.coe_le_coe_iff]
    exact ⟨ht, ⟨⟨i0, i2⟩, i1⟩, i3⟩
  · refine if_neg fun h => hm ?_
    simp only [Bool.and_eq_true, decide_eq_true_eq, EReal.coe_le_coe_iff] at h
    obtain ⟨ht, ⟨⟨i0, i2⟩, i1⟩, i3⟩ := h
    exact ⟨ht, i0, i2, i1, i3⟩

/-- The box an anchor reads. -/
abbrev pickK (o : Option (Fin 104)) : Fin 104 := pick (by norm_num) o

/-- One for a matched anchor, zero for another. -/
def posR {K : ℕ} (o : Option (Fin K)) : ℝ := if o.isSome = true then 1 else 0

theorem pos_at (v104 : IVec S1x2048 32) (j : Fin 2048) (o : Option (Fin 104)) (h : v104 (ix2 0 j) = word o) :
    k0_pay18 (F := Ideal) v104 k0_pay17 (ix2 0 j) = ((posR o : ℝ) : EReal) := by
  unfold k0_pay18 k0_pay17
  pointwise
  rw [h, sge_word (by norm_num)]
  exact sitofp_ofBool _

theorem onehot_at (v104 : IVec S1x2048 32) (m : Fin 104) (j : Fin 2048) (o : Option (Fin 104)) (h : v104 (ix2 0 j) = word o) :
    k0_pay19 (F := Ideal) (iota .tc S104x1 32 [0] iota_S104x1_d0_w32) v104 (ix2 m j) = ((if m = pickK o then 1 else 0 : ℝ) : EReal) := by
  unfold k0_pay19
  pointwise
  rw [h, max_word (by norm_num) (by norm_num)]
  have : IntOp.cmpi .eq (BitVec.ofNat 32 m.val) (BitVec.ofNat 32 (pickK o).val) = BitVec.ofBool (decide (m = pickK o)) := by
    show BitVec.ofBool (BitVec.ofNat 32 m.val == BitVec.ofNat 32 (pickK o).val) = _
    congr 1
    rw [Bool.eq_iff_iff]
    simp only [beq_iff_eq, decide_eq_true_eq]
    rw [ofNat_inj (by omega) (by omega)]
    exact Fin.ext_iff.symm
  rw [this, sitofp_ofBool]
  by_cases hm : m = pickK o <;> simp [hm]

theorem score_at (v80 : Vec Ideal S104x2048 .f32) (v104 : IVec S1x2048 32) (j : Fin 2048) (o : Option (Fin 104)) (I : Fin 104 → ℝ)
    (h : v104 (ix2 0 j) = word o) (hi : ∀ m, v80 (ix2 m j) = (I m : EReal)) :
    k0_pay20 (F := Ideal) (iota .tc S104x1 32 [0] iota_S104x1_d0_w32) v80 v104 k0_pay17 (ix2 0 j) = ((I (pickK o) * posR o : ℝ) : EReal) := by
  unfold k0_pay20
  pointwise
  simp only [onehot_at v104 _ j o h, pos_at v104 j o h, hi, Lift.mul_coe, Lift.sum_coe]
  congr 2
  simp

/-- Row `c` of the table read at an anchor's box. -/
theorem table_at (v48 : FVec Ideal S104x5 .f32) (v104 : IVec S1x2048 32) (j : Fin 2048) (o : Option (Fin 104)) (c : Fin 5) (T : Fin 104 → ℝ)
    (h : v104 (ix2 0 j) = word o) (ht : ∀ m, v48 (ix2 m c) = (T m : EReal)) :
    k0_pay21 (F := Ideal) (iota .tc S104x1 32 [0] iota_S104x1_d0_w32) v48 v104 (ix2 c j) = ((T (pickK o) : ℝ) : EReal) := by
  unfold k0_pay21
  pointwise
  simp only [onehot_at v104 _ j o h, ht, Lift.mul_coe, Lift.sum_coe]
  congr 1
  simp

theorem box_at (v48 : FVec Ideal S104x5 .f32) (v104 : IVec S1x2048 32) (j : Fin 2048) (o : Option (Fin 104)) (G : Fin 104 → Fin 4 → ℝ)
    (h : v104 (ix2 0 j) = word o) (ht : ∀ m (s : Fin 4), v48 (ix2 m (s.castLE (by norm_num))) = (G m s : EReal)) :
    k0_pay22 (F := Ideal) (iota .tc S104x1 32 [0] iota_S104x1_d0_w32) v48 v104 (ix2 0 j) = (G (pickK o) 0 : EReal)
    ∧ k0_pay23 (F := Ideal) (iota .tc S104x1 32 [0] iota_S104x1_d0_w32) v48 v104 (ix2 0 j) = (G (pickK o) 1 : EReal)
    ∧ k0_pay24 (F := Ideal) (iota .tc S104x1 32 [0] iota_S104x1_d0_w32) v48 v104 (ix2 0 j) = (G (pickK o) 2 : EReal)
    ∧ k0_pay25 (F := Ideal) (iota .tc S104x1 32 [0] iota_S104x1_d0_w32) v48 v104 (ix2 0 j) = (G (pickK o) 3 : EReal) := by
  refine ⟨?_, ?_, ?_, ?_⟩
  · unfold k0_pay22; pointwise
    exact table_at v48 v104 j o 0 _ h fun m => ht m 0
  · unfold k0_pay23; pointwise
    exact table_at v48 v104 j o 1 _ h fun m => ht m 1
  · unfold k0_pay24; pointwise
    exact table_at v48 v104 j o 2 _ h fun m => ht m 2
  · unfold k0_pay25; pointwise
    exact table_at v48 v104 j o 3 _ h fun m => ht m 3

theorem label_at (v48 : FVec Ideal S104x5 .f32) (v104 : IVec S1x2048 32) (j : Fin 2048) (o : Option (Fin 104)) (L : Fin 104 → BitVec 32)
    (h : v104 (ix2 0 j) = word o) (ht : ∀ m, v48 (ix2 m 4) = (((L m).toInt : ℝ) : EReal)) :
    k0_pay26 (F := Ideal) (iota .tc S104x1 32 [0] iota_S104x1_d0_w32) v48 v104 (ix2 0 j) = L (pickK o) := by
  unfold k0_pay26
  pointwise
  refine (congrArg (FloatOps.fptosi (F := Ideal) (φ := .f32) 32) (table_at v48 v104 j o 4 _ h ht)).trans ?_
  exact Lift.fptosi_toInt _

end Cert.KernelIdeal.Kern

end
-- ==== Proof.Kernel.Focal.lean ====
/- What the last pass adds for one chunk of anchors: the cross entropy over the classes, and the focal losses of the
   four sides. -/
module

public import proofs.«01_k».proof.Proof.Kernel.Match

@[expose] public section

set_option maxRecDepth 16384
noncomputable section

namespace Cert.KernelIdeal.Kern

open Cert.Chunks Cert.Words Cert.KernelIdeal Cert.KernelIdeal.Gen Idealize.ShloMosaic Idealize.ShloMosaic.TcCoe Idealize.ShloMosaic.Tactic

/-- The number of matched anchors grows by the chunk's. -/
theorem count_at (acc : ℝ) (v104 : IVec S1x2048 32) (o : Fin 2048 → Option (Fin 104)) (h : ∀ j, v104 (ix2 0 j) = word (o j)) :
    k0_pay27 (F := Ideal) (acc : EReal) v104 k0_pay17 = ((acc + ∑ j, posR (o j) : ℝ) : EReal) := by
  unfold k0_pay27
  pointwise
  simp only [Fin.sum_univ_one, fun j => pos_at v104 j (o j) (h j), Lift.sum_coe, Lift.add_coe]

/-- A chunk's logits, minus infinity on the columns past the anchors. -/
theorem logit_at (k : Fin 10) (v137 : Vec Ideal S80x2048 .f32) (c : Fin 80) (j : Fin 2048) :
    k0_pay28 (F := Ideal) (iota .tc S1x2048 32 [1] iota_S1x2048_d1_w32) (BitVec.ofNat 32 k.val) v137 (ix2 c j)
      = if 2048 * k.val + j.val < 20000 then v137 (ix2 c j) else ⊥ := by
  unfold k0_pay28
  pointwise
  have hw : IntOp.cmpi CmpIPredicate.slt (BitVec.ofNat 32 j.val) (Scalar.subi 20000#32 (Scalar.muli (BitVec.ofNat 32 k.val) 2048#32))
      = BitVec.ofBool (decide (2048 * k.val + j.val < 20000)) := by
    have e : Scalar.subi 20000#32 (Scalar.muli (BitVec.ofNat 32 k.val) 2048#32) = BitVec.ofNat 32 (20000 - 2048 * k.val) := by
      revert k; decide
    rw [e]
    show BitVec.ofBool (decide ((BitVec.ofNat 32 j.val).toInt < (BitVec.ofNat 32 (20000 - 2048 * k.val)).toInt)) = _
    rw [toInt_ofNat (by omega), toInt_ofNat (by omega)]
    congr 1
    exact decide_eq_decide.2 (by omega)
  rw [hw, sel_ofBool]
  simp only [decide_eq_true_eq]
  rfl

/-- The softplus terms of a chunk. -/
theorem base_sum (v49 : IVec S1x2048 32) (w : BitVec 32) (v137 : Vec Ideal S80x2048 .f32) :
    k0_pay29 (F := Ideal) v49 w v137 = ∑ c : Fin 80, ∑ j : Fin 2048, baseE (k0_pay28 (F := Ideal) v49 w v137 (ix2 c j)) := by
  unfold k0_pay29
  generalize k0_pay28 (F := Ideal) v49 w v137 = p
  pointwise
  rfl

/-- The classification sum of a chunk. -/
theorem cls_sum (acc b : EReal) (v119 : FVec Ideal S1x2048 .f32) (v126 : IVec S1x2048 32) (v142 : FVec Ideal S80x2048 .f32) :
    k0_pay30 (F := Ideal) (iota .tc S80x1 32 [0] iota_S80x1_d0_w32) acc v119 v126 v142 b
      = acc + b - ∑ j : Fin 2048, v119 (ix2 0 j) * ∑ c : Fin 80, (if BitVec.ofNat 32 c.val = v126 (ix2 0 j) then v142 (ix2 c j) else 0) := by
  unfold k0_pay30
  pointwise
  simp only [Fin.sum_univ_one, sel_eq]

/-- The largest regression logit of an anchor is a number, and the exponentials are taken relative to it. -/
theorem exp_at (v170 : Vec Ideal S64x2048 .f32) (j : Fin 2048) (x : Fin 64 → ℝ) (h : ∀ r, v170 (ix2 r j) = (x r : EReal)) :
    ∃ M : ℝ, k0_pay32 (F := Ideal) v170 (ix2 0 j) = (M : EReal) ∧ ∀ r, k0_pay33 (F := Ideal) v170 (ix2 r j) = ((Real.exp (x r - M) : ℝ) : EReal) := by
  obtain ⟨M, hM⟩ := fold_max_coe (K := 64) (by norm_num) x
  have h32 : k0_pay32 (F := Ideal) v170 (ix2 0 j) = (M : EReal) := by
    unfold k0_pay32 k0_pay31
    pointwise
    simp only [h, Lift.bot]
    exact hM
  refine ⟨M, h32, fun r => ?_⟩
  unfold k0_pay33
  pointwise
  rw [h32]
  unfold k0_pay31
  pointwise
  rw [h, Lift.sub_coe]
  rfl

/-- Row of the logits of bin `b` of side `s`. -/
def row (s : Fin 4) (b : Fin 16) : Fin 64 := ⟨16 * s.val + b.val, by omega⟩

/-- The regression sum of a chunk, its last side spelled out. -/
theorem reg_sum (acc : EReal) (v108 : FVec Ideal S1x2048 .f32) (v171 : FVec Ideal S64x2048 .f32) (v173 : FVec Ideal S1x2048 .f32)
    (v176 : FVec Ideal S64x2048 .f32) (v295 v297 : FVec Ideal S1x2048 .f32) :
    k0_pay3 (F := Ideal) acc v108 v171 v173 v176 v295 v297
      = acc + ∑ j : Fin 2048, (v295 (ix2 0 j) + dflK (fun b => v171 (ix2 (row 3 b) j)) (fun b => v176 (ix2 (row 3 b) j)) (v173 (ix2 0 j))
          (min (Spec.hi : EReal) (max 0 (v297 (ix2 0 j))))) * v108 (ix2 0 j) := by
  unfold k0_pay3
  pointwise
  simp only [Fin.sum_univ_one, Lift.hi]
  rfl

section
variable (v46 : IVec S16x1 32) (v170 : Vec Ideal S64x2048 .f32) (v75 v78 v121 v122 v123 v124 : FVec Ideal S1x2048 .f32)

/-- The first side's term. -/
theorem side0_at (j : Fin 2048) :
    k0_pay47 (F := Ideal) (iota .tc S16x1 32 [0] iota_S16x1_d0_w32) k0_pay37 (k0_pay40 v75 v121) (k0_pay41 v75 v121) (k0_pay42 v75 v121) (k0_pay43 v170) (k0_pay44 v170)
        (k0_pay45 (iota .tc S16x1 32 [0] iota_S16x1_d0_w32) v75 v121) k0_pay46 (ix2 0 j)
      = 0 + dflK (fun b => v170 (ix2 (row 0 b) j)) (fun b => k0_pay33 (F := Ideal) v170 (ix2 (row 0 b) j)) (k0_pay32 (F := Ideal) v170 (ix2 0 j))
          (min (Spec.hi : EReal) (max 0 ((v75 (ix2 0 j) - v121 (ix2 0 j)) * ((1 / 8 : ℝ) : EReal)))) := by
  unfold k0_pay47 k0_pay45 k0_pay44 k0_pay43 k0_pay42 k0_pay41 k0_pay40 k0_pay39 k0_pay38 k0_pay37 k0_pay31 k0_pay46
  pointwise
  simp only [Lift.hi, Lift.eighth]
  unfold dflK
  have hr : ∀ x : Fin 16, row 0 x = ⟨x.val, by omega⟩ := fun x => Fin.ext (by show 16 * 0 + x.val = x.val; omega)
  simp only [hr]

/-- The second and third sides' terms. -/
theorem side12_at (v179 v219 : FVec Ideal S1x2048 .f32) (j : Fin 2048) :
    k0_pay58 (F := Ideal) (iota .tc S16x1 32 [0] iota_S16x1_d0_w32) (k0_pay31 v170) (k0_pay32 v170) (k0_pay33 v170) v179 v219
        (k0_pay51 (k0_pay34 v78 v122)) (k0_pay52 (k0_pay34 v78 v122)) (k0_pay53 (k0_pay31 v170)) (k0_pay54 (k0_pay32 v170) (k0_pay33 v170))
        (k0_pay55 (iota .tc S16x1 32 [0] iota_S16x1_d0_w32) (k0_pay31 v170) (k0_pay34 v78 v122)) (k0_pay56 (iota .tc S16x1 32 [0] iota_S16x1_d0_w32) (k0_pay34 v78 v122)) k0_pay57 (ix2 0 j)
      = v219 (ix2 0 j) + dflK (fun b => v170 (ix2 (row 1 b) j)) (fun b => k0_pay33 (F := Ideal) v170 (ix2 (row 1 b) j)) (k0_pay32 (F := Ideal) v170 (ix2 0 j))
          (min (Spec.hi : EReal) (max 0 ((v78 (ix2 0 j) - v122 (ix2 0 j)) * ((1 / 8 : ℝ) : EReal))))
        + dflK (fun b => v170 (ix2 (row 2 b) j)) (fun b => k0_pay33 (F := Ideal) v170 (ix2 (row 2 b) j)) (k0_pay32 (F := Ideal) v170 (ix2 0 j))
          (min (Spec.hi : EReal) (max 0 (v179 (ix2 0 j) * ((1 / 8 : ℝ) : EReal)))) := by
  unfold k0_pay58 k0_pay57 k0_pay56 k0_pay55 k0_pay54 k0_pay53 k0_pay52 k0_pay51 k0_pay50 k0_pay49 k0_pay48 k0_pay34 k0_pay31
  pointwise
  simp only [Lift.hi, Lift.eighth]
  rfl
end

/-- The regression term of one anchor: the four sides' focal losses, kept for a matched anchor. -/
theorem sides_at (v170 : Vec Ideal S64x2048 .f32) (v75 v78 v121 v122 v123 v124 : FVec Ideal S1x2048 .f32) (j : Fin 2048) (x : Fin 4 → Fin 16 → ℝ) (A B : Fin 4 → ℝ)
    (hx : ∀ s b, v170 (ix2 (row s b) j) = (x s b : EReal))
    (h75 : v75 (ix2 0 j) = (Spec.cx A : EReal)) (h78 : v78 (ix2 0 j) = (Spec.cy A : EReal))
    (h121 : v121 (ix2 0 j) = (B 0 : EReal)) (h122 : v122 (ix2 0 j) = (B 1 : EReal)) (h123 : v123 (ix2 0 j) = (B 2 : EReal)) (h124 : v124 (ix2 0 j) = (B 3 : EReal)) :
    k0_pay58 (F := Ideal) (iota .tc S16x1 32 [0] iota_S16x1_d0_w32) (k0_pay31 v170) (k0_pay32 v170) (k0_pay33 v170) (k0_pay35 v75 v123)
        (k0_pay47 (F := Ideal) (iota .tc S16x1 32 [0] iota_S16x1_d0_w32) k0_pay37 (k0_pay40 v75 v121) (k0_pay41 v75 v121) (k0_pay42 v75 v121) (k0_pay43 v170) (k0_pay44 v170)
          (k0_pay45 (iota .tc S16x1 32 [0] iota_S16x1_d0_w32) v75 v121) k0_pay46)
        (k0_pay51 (k0_pay34 v78 v122)) (k0_pay52 (k0_pay34 v78 v122)) (k0_pay53 (k0_pay31 v170)) (k0_pay54 (k0_pay32 v170) (k0_pay33 v170))
        (k0_pay55 (iota .tc S16x1 32 [0] iota_S16x1_d0_w32) (k0_pay31 v170) (k0_pay34 v78 v122)) (k0_pay56 (iota .tc S16x1 32 [0] iota_S16x1_d0_w32) (k0_pay34 v78 v122)) k0_pay57 (ix2 0 j)
      + dflK (fun b => k0_pay31 (F := Ideal) v170 (ix2 (row 3 b) j)) (fun b => k0_pay33 (F := Ideal) v170 (ix2 (row 3 b) j)) (k0_pay32 (F := Ideal) v170 (ix2 0 j))
          (min (Spec.hi : EReal) (max 0 (k0_pay59 (F := Ideal) (k0_pay36 v78 v124) (ix2 0 j))))
      = ((∑ s, Spec.dfl (x s) (Spec.side A B s) : ℝ) : EReal) := by
  have hrow : ∀ r : Fin 64, v170 (ix2 r j) = (x ⟨r.val / 16, by omega⟩ ⟨r.val % 16, by omega⟩ : EReal) := fun r => by
    rw [← hx]
    congr 2
    exact Fin.ext (by show r.val = 16 * (r.val / 16) + r.val % 16; omega)
  obtain ⟨M, hM, hE⟩ := exp_at v170 j _ hrow
  have hE' : ∀ s b, k0_pay33 (F := Ideal) v170 (ix2 (row s b) j) = ((Real.exp (x s b - M) : ℝ) : EReal) := fun s b => by
    rw [hE]
    have e1 : (⟨(row s b).val / 16, by omega⟩ : Fin 4) = s := Fin.ext (by show (16 * s.val + b.val) / 16 = s.val; omega)
    have e2 : (⟨(row s b).val % 16, by omega⟩ : Fin 16) = b := Fin.ext (by show (16 * s.val + b.val) % 16 = b.val; omega)
    rw [e1, e2]
  have h31 : k0_pay31 (F := Ideal) v170 = v170 := by
    unfold k0_pay31; funext i; pointwise
  rw [side12_at, side0_at, hM, h31]
  have t2 : k0_pay35 (F := Ideal) v75 v123 (ix2 0 j) = ((B 2 - Spec.cx A : ℝ) : EReal) := by
    unfold k0_pay35; pointwise; rw [h75, h123, Lift.sub_coe]
  have t3 : k0_pay59 (F := Ideal) (k0_pay36 v78 v124) (ix2 0 j) = ((B 3 - Spec.cy A : ℝ) : EReal) * ((1 / 8 : ℝ) : EReal) := by
    unfold k0_pay59 k0_pay36; pointwise; rw [h78, h124, Lift.sub_coe, Lift.eighth]
  rw [t2, t3, h75, h78, h121, h122, Lift.sub_coe, Lift.sub_coe, tgt_coe, tgt_coe, tgt_coe, tgt_coe,
    dflK_coe (x 0) M (Spec.cx A - B 0) (hx 0) (hE' 0) rfl, dflK_coe (x 1) M (Spec.cy A - B 1) (hx 1) (hE' 1) rfl,
    dflK_coe (x 2) M (B 2 - Spec.cx A) (hx 2) (hE' 2) rfl, dflK_coe (x 3) M (B 3 - Spec.cy A) (hx 3) (hE' 3) rfl, zero_add]
  simp only [Lift.add_coe]
  have s0 : Spec.side A B 0 = Spec.cx A - B 0 := rfl
  have s1 : Spec.side A B 1 = Spec.cy A - B 1 := rfl
  have s2 : Spec.side A B 2 = B 2 - Spec.cx A := rfl
  have s3 : Spec.side A B 3 = B 3 - Spec.cy A := rfl
  rw [Fin.sum_univ_four, s0, s1, s2, s3]

end Cert.KernelIdeal.Kern

end
-- ==== Proof.Kernel.Loss.lean ====
/- The last pass as a whole: after it the three carried numbers are the classification sum, the regression sum and the
   number of matched anchors, over all columns. -/
module

public import proofs.«01_k».proof.Proof.Kernel.Focal

@[expose] public section

set_option maxRecDepth 16384
noncomputable section

namespace Cert.KernelIdeal.Kern

open Cert.Chunks Cert.Words Cert.KernelIdeal Cert.KernelIdeal.Gen Idealize.ShloMosaic Idealize.ShloMosaic.TcCoe Idealize.ShloMosaic.Tactic

variable (𝒱 : Variants) (c : Dev nD) (bd : Option 𝒱.V) (arg0 : Memref sig .tc .vmem S8x20480 .f32) (harg0 : arg0.IsWhole) (arg1 : Memref sig .tc .vmem S104x128 .f32) (harg1 : arg1.IsWhole) (arg2 : Memref sig .tc .vmem S80x20480 .f32) (harg2 : arg2.IsWhole) (arg3 : Memref sig .tc .vmem S64x20480 .f32) (harg3 : arg3.IsWhole) (arg4 : Memref sig .tc .vmem S8x128 .f32) (harg4 : arg4.IsWhole) (arg5 : Memref sig .tc .vmem S104x20480 .f32) (harg5 : arg5.IsWhole) (arg6 : Memref sig .tc .vmem S104x20480 .f32) (harg6 : arg6.IsWhole)
variable (v1 v3 v5 v7 : FVec Ideal S104x1 .f32) (v19 : IVec S104x1 1) (v29 v30 v33 : FVec Ideal S104x1 .f32) (v47 : Vec Ideal S104x5 .f32)
variable (X0 : BufTy.Contents (Elt Ideal) arg0.view.ty) (X2 : BufTy.Contents (Elt Ideal) arg2.view.ty) (X3 : BufTy.Contents (Elt Ideal) arg3.view.ty) (X6 : BufTy.Contents (Elt Ideal) arg6.view.ty)

theorem trips5 : k0_t5_loop.trips = 10 := by decide +kernel

abbrev cst0 : Ideal .f32 := Scalar.ofBits .f32 0x00000000#32
abbrev rows104 : IVec S104x1 32 := iota .tc S104x1 32 [0] iota_S104x1_d0_w32
abbrev rows80 : IVec S80x1 32 := iota .tc S80x1 32 [0] iota_S80x1_d0_w32
abbrev rows16 : IVec S16x1 32 := iota .tc S16x1 32 [0] iota_S16x1_d0_w32
abbrev cols : IVec S1x2048 32 := iota .tc S1x2048 32 [1] iota_S1x2048_d1_w32

section
variable (k : Fin k0_t5_loop.trips)
abbrev ld0 : Vec Ideal S1x2048 .f32 := View.readAt (Elt Ideal) arg0.view (Rect.unit (s := S8x20480) (k0_off8 k) S1x2048.size (k0_off8_inb k)).toLoadRect X0
abbrev ld1 : Vec Ideal S1x2048 .f32 := View.readAt (Elt Ideal) arg0.view (Rect.unit (s := S8x20480) (k0_off9 k) S1x2048.size (k0_off9_inb k)).toLoadRect X0
abbrev ld2 : Vec Ideal S1x2048 .f32 := View.readAt (Elt Ideal) arg0.view (Rect.unit (s := S8x20480) (k0_off10 k) S1x2048.size (k0_off10_inb k)).toLoadRect X0
abbrev ld3 : Vec Ideal S1x2048 .f32 := View.readAt (Elt Ideal) arg0.view (Rect.unit (s := S8x20480) (k0_off11 k) S1x2048.size (k0_off11_inb k)).toLoadRect X0
abbrev ldIou : Vec Ideal S104x2048 .f32 := View.readAt (Elt Ideal) arg6.view (Rect.unit (s := S104x20480) (k0_off12 k) S104x2048.size (k0_off12_inb k)).toLoadRect X6
abbrev ldCls : Vec Ideal S80x2048 .f32 := View.readAt (Elt Ideal) arg2.view (Rect.unit (s := S80x20480) (k0_off13 k) S80x2048.size (k0_off13_inb k)).toLoadRect X2
abbrev ldReg : Vec Ideal S64x2048 .f32 := View.readAt (Elt Ideal) arg3.view (Rect.unit (s := S64x20480) (k0_off14 k) S64x2048.size (k0_off14_inb k)).toLoadRect X3

/-- A chunk's horizontal and vertical centres, its matches and the boxes they read. -/
abbrev chX : FVec Ideal S1x2048 .f32 := k0_pay14 (ld0 arg0 X0 k) (ld2 arg0 X0 k)
abbrev chY : FVec Ideal S1x2048 .f32 := k0_pay15 (ld1 arg0 X0 k) (ld3 arg0 X0 k)
abbrev chM : IVec S1x2048 32 :=
  k0_pay16 (F := Ideal) v1 v3 v5 v7 rows104 (k0_pay1 v19 v29 v30 v33 cst0) (ld0 arg0 X0 k) (ld1 arg0 X0 k) (ld2 arg0 X0 k) (ld3 arg0 X0 k) (ldIou arg6 X6 k)
end

/-- One trip's three numbers. -/
theorem trip5_eq (k : Fin k0_t5_loop.trips) (acc : Ideal .f32 × Ideal .f32 × Ideal .f32) :
    (trip_k0_t5 (F := Ideal) 𝒱 c bd arg0 harg0 arg1 harg1 arg2 harg2 arg3 harg3 arg4 harg4 arg5 harg5 arg6 harg6 v1 v3 v5 v7 rows104 v19 v29 v30 v33 cst0 rows80 rows16 v47 cols X0 X2 X3 X6 k).1 acc
      = (k0_pay30 rows80 acc.1
            (k0_pay20 rows104 (ldIou arg6 X6 k) (chM arg0 arg6 v1 v3 v5 v7 v19 v29 v30 v33 X0 X6 k) k0_pay17)
            (k0_pay26 rows104 (k0_pay2 v47) (chM arg0 arg6 v1 v3 v5 v7 v19 v29 v30 v33 X0 X6 k))
            (k0_pay28 cols (Scf.iv 0#32 1#32 k.val) (ldCls arg2 X2 k)) (k0_pay29 cols (Scf.iv 0#32 1#32 k.val) (ldCls arg2 X2 k)),
         k0_pay3 acc.2.1 (k0_pay18 (chM arg0 arg6 v1 v3 v5 v7 v19 v29 v30 v33 X0 X6 k) k0_pay17) (k0_pay31 (ldReg arg3 X3 k)) (k0_pay32 (ldReg arg3 X3 k)) (k0_pay33 (ldReg arg3 X3 k))
            (k0_pay58 rows16 (k0_pay31 (ldReg arg3 X3 k)) (k0_pay32 (ldReg arg3 X3 k)) (k0_pay33 (ldReg arg3 X3 k))
              (k0_pay35 (chX arg0 X0 k) (k0_pay24 rows104 (k0_pay2 v47) (chM arg0 arg6 v1 v3 v5 v7 v19 v29 v30 v33 X0 X6 k)))
              (k0_pay47 rows16 k0_pay37
                (k0_pay40 (chX arg0 X0 k) (k0_pay22 rows104 (k0_pay2 v47) (chM arg0 arg6 v1 v3 v5 v7 v19 v29 v30 v33 X0 X6 k)))
                (k0_pay41 (chX arg0 X0 k) (k0_pay22 rows104 (k0_pay2 v47) (chM arg0 arg6 v1 v3 v5 v7 v19 v29 v30 v33 X0 X6 k)))
                (k0_pay42 (chX arg0 X0 k) (k0_pay22 rows104 (k0_pay2 v47) (chM arg0 arg6 v1 v3 v5 v7 v19 v29 v30 v33 X0 X6 k)))
                (k0_pay43 (ldReg arg3 X3 k)) (k0_pay44 (ldReg arg3 X3 k))
                (k0_pay45 rows16 (chX arg0 X0 k) (k0_pay22 rows104 (k0_pay2 v47) (chM arg0 arg6 v1 v3 v5 v7 v19 v29 v30 v33 X0 X6 k))) k0_pay46)
              (k0_pay51 (k0_pay34 (chY arg0 X0 k) (k0_pay23 rows104 (k0_pay2 v47) (chM arg0 arg6 v1 v3 v5 v7 v19 v29 v30 v33 X0 X6 k))))
              (k0_pay52 (k0_pay34 (chY arg0 X0 k) (k0_pay23 rows104 (k0_pay2 v47) (chM arg0 arg6 v1 v3 v5 v7 v19 v29 v30 v33 X0 X6 k))))
              (k0_pay53 (k0_pay31 (ldReg arg3 X3 k))) (k0_pay54 (k0_pay32 (ldReg arg3 X3 k)) (k0_pay33 (ldReg arg3 X3 k)))
              (k0_pay55 rows16 (k0_pay31 (ldReg arg3 X3 k)) (k0_pay34 (chY arg0 X0 k) (k0_pay23 rows104 (k0_pay2 v47) (chM arg0 arg6 v1 v3 v5 v7 v19 v29 v30 v33 X0 X6 k))))
              (k0_pay56 rows16 (k0_pay34 (chY arg0 X0 k) (k0_pay23 rows104 (k0_pay2 v47) (chM arg0 arg6 v1 v3 v5 v7 v19 v29 v30 v33 X0 X6 k)))) k0_pay57)
            (k0_pay59 (k0_pay36 (chY arg0 X0 k) (k0_pay25 rows104 (k0_pay2 v47) (chM arg0 arg6 v1 v3 v5 v7 v19 v29 v30 v33 X0 X6 k)))),
         k0_pay27 acc.2.2 (chM arg0 arg6 v1 v3 v5 v7 v19 v29 v30 v33 X0 X6 k) k0_pay17) := by
  unfold trip_k0_t5; rfl

/-- What the last pass reads, as real numbers. -/
structure LossIn (TH : Fin 104 → EReal) (A : Fin 20480 → Fin 4 → ℝ) (G : Fin 104 → Fin 4 → ℝ) (L : Fin 104 → BitVec 32)
    (P : Fin 20480 → Fin 80 → ℝ) (XR : Fin 20480 → Fin 4 → Fin 16 → ℝ) : Prop where
  g0 : ∀ m, v1 (ix2 m 0) = (G m 0 : EReal)
  g1 : ∀ m, v3 (ix2 m 0) = (G m 1 : EReal)
  g2 : ∀ m, v5 (ix2 m 0) = (G m 2 : EReal)
  g3 : ∀ m, v7 (ix2 m 0) = (G m 3 : EReal)
  th : ∀ m, k0_pay1 v19 v29 v30 v33 cst0 (ix2 m 0) = TH m
  tab : ∀ m (s : Fin 4), v47 (ix2 m (s.castLE (by norm_num))) = (G m s : EReal)
  lab : ∀ m, v47 (ix2 m 4) = (((L m).toInt : ℝ) : EReal)
  anc : ∀ (s : Fin 4) n, arg0.view.read (Elt Ideal) X0 (ix2 (s.castLE (by norm_num)) n) = (A n s : EReal)
  cls : ∀ cc n, n.val < 20000 → arg2.view.read (Elt Ideal) X2 (ix2 cc n) = (P n cc : EReal)
  reg : ∀ s b n, arg3.view.read (Elt Ideal) X3 (ix2 (row s b) n) = (XR n s b : EReal)
  iou : ∀ m n, arg6.view.read (Elt Ideal) X6 (ix2 m n) = (Spec.iou (A n) (G m) : EReal)
  pad : ∀ n, 20000 ≤ n.val → Spec.best (fun m => PosE (A n) (G m) (TH m)) = none

section
variable (TH : Fin 104 → EReal) (A : Fin 20480 → Fin 4 → ℝ) (G : Fin 104 → Fin 4 → ℝ) (L : Fin 104 → BitVec 32)
    (P : Fin 20480 → Fin 80 → ℝ) (XR : Fin 20480 → Fin 4 → Fin 16 → ℝ)

/-- A column's match. -/
def mt (n : Fin 20480) : Option (Fin 104) := Spec.best fun m => PosE (A n) (G m) (TH m)
/-- A column's softplus terms. -/
def clsT (n : Fin 20480) : ℝ := if n.val < 20000 then ∑ cc, Spec.base (P n cc) else 0
/-- A column's score times the logit of its class. -/
def scoreT (n : Fin 20480) : ℝ :=
  if n.val < 20000 then Spec.iou (A n) (G (pickK (mt TH A G n))) * posR (mt TH A G n) * ∑ cc : Fin 80, (if BitVec.ofNat 32 cc.val = L (pickK (mt TH A G n)) then P n cc else 0) else 0
/-- A column's focal losses. -/
def regT (n : Fin 20480) : ℝ := (∑ s, Spec.dfl (XR n s) (Spec.side (A n) (G (pickK (mt TH A G n))) s)) * posR (mt TH A G n)
end

variable {v1 v3 v5 v7 v19 v29 v30 v33 v47 X0 X2 X3 X6}
variable {TH : Fin 104 → EReal} {A : Fin 20480 → Fin 4 → ℝ} {G : Fin 104 → Fin 4 → ℝ} {L : Fin 104 → BitVec 32}
    {P : Fin 20480 → Fin 80 → ℝ} {XR : Fin 20480 → Fin 4 → Fin 16 → ℝ}

namespace LossIn
variable (h : LossIn arg0 arg2 arg3 arg6 v1 v3 v5 v7 v19 v29 v30 v33 v47 X0 X2 X3 X6 TH A G L P XR)
  (k : ℕ) (hk : k < 10)
include h

theorem ld0_at (j : Fin 2048) : ld0 arg0 X0 ⟨k, by rw [trips5]; exact hk⟩ (ix2 0 j) = (A (col k hk j) 0 : EReal) := by
  rw [← h.anc]
  refine (readAt_two _ _ (k0_off8_eq _) _ 0 j (by omega) (by show 2048 * k + j.val < 20480; omega)).trans ?_
  congr 2
theorem ld1_at (j : Fin 2048) : ld1 arg0 X0 ⟨k, by rw [trips5]; exact hk⟩ (ix2 0 j) = (A (col k hk j) 1 : EReal) := by
  rw [← h.anc]
  refine (readAt_two _ _ (k0_off9_eq _) _ 0 j (by omega) (by show 2048 * k + j.val < 20480; omega)).trans ?_
  congr 2
theorem ld2_at (j : Fin 2048) : ld2 arg0 X0 ⟨k, by rw [trips5]; exact hk⟩ (ix2 0 j) = (A (col k hk j) 2 : EReal) := by
  rw [← h.anc]
  refine (readAt_two _ _ (k0_off10_eq _) _ 0 j (by omega) (by show 2048 * k + j.val < 20480; omega)).trans ?_
  congr 2
theorem ld3_at (j : Fin 2048) : ld3 arg0 X0 ⟨k, by rw [trips5]; exact hk⟩ (ix2 0 j) = (A (col k hk j) 3 : EReal) := by
  rw [← h.anc]
  refine (readAt_two _ _ (k0_off11_eq _) _ 0 j (by omega) (by show 2048 * k + j.val < 20480; omega)).trans ?_
  congr 2
theorem ldIou_at (m : Fin 104) (j : Fin 2048) : ldIou arg6 X6 ⟨k, by rw [trips5]; exact hk⟩ (ix2 m j) = (Spec.iou (A (col k hk j)) (G m) : EReal) := by
  rw [← h.iou]
  refine (readAt_two _ _ (k0_off12_eq _) _ m j (by omega) (by show 2048 * k + j.val < 20480; omega)).trans ?_
  congr 2
  exact Fin.ext (by show 0 + m.val = m.val; omega)
theorem ldCls_at (cc : Fin 80) (j : Fin 2048) (hn : 2048 * k + j.val < 20000) : ldCls arg2 X2 ⟨k, by rw [trips5]; exact hk⟩ (ix2 cc j) = (P (col k hk j) cc : EReal) := by
  rw [← h.cls cc (col k hk j) hn]
  refine (readAt_two _ _ (k0_off13_eq _) _ cc j (by omega) (by show 2048 * k + j.val < 20480; omega)).trans ?_
  congr 2
  exact Fin.ext (by show 0 + cc.val = cc.val; omega)
theorem ldReg_at (s : Fin 4) (b : Fin 16) (j : Fin 2048) : ldReg arg3 X3 ⟨k, by rw [trips5]; exact hk⟩ (ix2 (row s b) j) = (XR (col k hk j) s b : EReal) := by
  rw [← h.reg]
  refine (readAt_two _ _ (k0_off14_eq _) _ (row s b) j (by have := (row s b).isLt; omega) (by show 2048 * k + j.val < 20480; omega)).trans ?_
  congr 2
  exact Fin.ext (by show 0 + (row s b).val = (row s b).val; omega)

theorem chX_at (j : Fin 2048) : chX arg0 X0 ⟨k, by rw [trips5]; exact hk⟩ (ix2 0 j) = (Spec.cx (A (col k hk j)) : EReal) := by
  unfold chX k0_pay14
  pointwise
  rw [h.ld0_at _ _ _ _ k hk j, h.ld2_at _ _ _ _ k hk j, center_coe]; rfl
theorem chY_at (j : Fin 2048) : chY arg0 X0 ⟨k, by rw [trips5]; exact hk⟩ (ix2 0 j) = (Spec.cy (A (col k hk j)) : EReal) := by
  unfold chY k0_pay15
  pointwise
  rw [h.ld1_at _ _ _ _ k hk j, h.ld3_at _ _ _ _ k hk j, center_coe]; rfl

theorem chM_at (j : Fin 2048) : chM arg0 arg6 v1 v3 v5 v7 v19 v29 v30 v33 X0 X6 ⟨k, by rw [trips5]; exact hk⟩ (ix2 0 j) = word (mt TH A G (col k hk j)) := by
  refine (match_at v1 v3 v5 v7 _ _ _ _ _ _ j (A (col k hk j)) G h.g0 h.g1 h.g2 h.g3 (h.ld0_at _ _ _ _ k hk j) (h.ld1_at _ _ _ _ k hk j)
    (h.ld2_at _ _ _ _ k hk j) (h.ld3_at _ _ _ _ k hk j) (fun m => h.ldIou_at _ _ _ _ k hk m j)).trans ?_
  unfold mt
  simp only [h.th]

theorem tab_at (m : Fin 104) (s : Fin 5) : k0_pay2 (F := Ideal) v47 (ix2 m s) = v47 (ix2 m s) := by
  unfold k0_pay2; pointwise

/-- A chunk's softplus terms. -/
theorem base_chunk : k0_pay29 (F := Ideal) cols (BitVec.ofNat 32 k) (ldCls arg2 X2 ⟨k, by rw [trips5]; exact hk⟩) = ((∑ j, clsT P (col k hk j) : ℝ) : EReal) := by
  rw [base_sum, Finset.sum_comm, ← Lift.sum_coe]
  refine Finset.sum_congr rfl fun j _ => ?_
  have e := fun cc => logit_at ⟨k, hk⟩ (ldCls arg2 X2 ⟨k, by rw [trips5]; exact hk⟩) cc j
  simp only [e]
  by_cases hn : 2048 * k + j.val < 20000
  · have hc : clsT P (col k hk j) = ∑ cc, Spec.base (P (col k hk j) cc) := if_pos hn
    rw [hc, ← Lift.sum_coe]
    refine Finset.sum_congr rfl fun cc _ => ?_
    rw [if_pos hn, h.ldCls_at _ _ _ _ k hk cc j hn, baseE_coe]
  · have hc : clsT P (col k hk j) = 0 := if_neg hn
    rw [hc]
    simp only [if_neg hn, baseE_bot, Finset.sum_const_zero]
    rfl

/-- A column's product of score and class logit. -/
theorem score_chunk (j : Fin 2048) :
    ((Spec.iou (A (col k hk j)) (G (pickK (mt TH A G (col k hk j)))) * posR (mt TH A G (col k hk j)) : ℝ) : EReal)
      * ∑ cc : Fin 80, (if BitVec.ofNat 32 cc.val = L (pickK (mt TH A G (col k hk j))) then
          k0_pay28 (F := Ideal) cols (BitVec.ofNat 32 k) (ldCls arg2 X2 ⟨k, by rw [trips5]; exact hk⟩) (ix2 cc j) else 0)
      = ((scoreT TH A G L P (col k hk j) : ℝ) : EReal) := by
  have e := fun cc => logit_at ⟨k, hk⟩ (ldCls arg2 X2 ⟨k, by rw [trips5]; exact hk⟩) cc j
  simp only [e]
  by_cases hn : 2048 * k + j.val < 20000
  · have hs : scoreT TH A G L P (col k hk j) = _ := if_pos hn
    rw [hs]
    refine Eq.trans (congrArg (fun z => _ * z) ?_) (Lift.mul_coe _ _)
    rw [← Lift.sum_coe]
    refine Finset.sum_congr rfl fun cc _ => ?_
    rw [if_pos hn, h.ldCls_at _ _ _ _ k hk cc j hn]
    split <;> rfl
  · have hs : scoreT TH A G L P (col k hk j) = 0 := if_neg hn
    have hp : mt TH A G (col k hk j) = none := h.pad _ (not_lt.1 hn)
    have hz : posR (mt TH A G (col k hk j)) = 0 := by rw [hp]; rfl
    rw [hs, hz, mul_zero, EReal.coe_zero, zero_mul]

end LossIn

theorem add_sub_add_comm' (a b x y : ℝ) : a - b + x - y = a + x - (b + y) := by ring

/-- The three carried numbers before trip `k`. -/
theorem st5_inv (h : LossIn arg0 arg2 arg3 arg6 v1 v3 v5 v7 v19 v29 v30 v33 v47 X0 X2 X3 X6 TH A G L P XR) : ∀ k : ℕ, k ≤ 10 →
    st_k0_t5 (F := Ideal) 𝒱 c bd arg0 harg0 arg1 harg1 arg2 harg2 arg3 harg3 arg4 harg4 arg5 harg5 arg6 harg6 v1 v3 v5 v7 rows104 v19 v29 v30 v33 cst0 rows80 rows16 v47 cols X0 X2 X3 X6 (cst0, cst0, cst0) k
      = (((pre (clsT P) k - pre (scoreT TH A G L P) k : ℝ) : EReal), ((pre (regT TH A G XR) k : ℝ) : EReal), ((pre (fun n => posR (mt TH A G n)) k : ℝ) : EReal)) := by
  intro k
  induction k with
  | zero =>
    intro _
    rw [pre_zero, pre_zero, pre_zero, pre_zero]
    have e : (cst0 : EReal) = ((0 : ℝ) : EReal) := by show Ideal.ofBits .f32 0x00000000#32 = _; simp [Ideal.ofBits, Ideal.ieee]
    show ((cst0 : EReal), (cst0 : EReal), (cst0 : EReal)) = _
    rw [e, sub_zero]
  | succ k ih =>
    intro hk
    have hk' : k < 10 := by omega
    have hs := st_k0_t5_succ (F := Ideal) 𝒱 c bd arg0 harg0 arg1 harg1 arg2 harg2 arg3 harg3 arg4 harg4 arg5 harg5 arg6 harg6 v1 v3 v5 v7 rows104 v19 v29 v30 v33 cst0 rows80 rows16 v47 cols X0 X2 X3 X6 (cst0, cst0, cst0) ⟨k, by rw [trips5]; exact hk'⟩
    unfold tripR_k0_t5 at hs
    rw [trip5_eq] at hs
    change st_k0_t5 (F := Ideal) 𝒱 c bd arg0 harg0 arg1 harg1 arg2 harg2 arg3 harg3 arg4 harg4 arg5 harg5 arg6 harg6 v1 v3 v5 v7 rows104 v19 v29 v30 v33 cst0 rows80 rows16 v47 cols X0 X2 X3 X6 (cst0, cst0, cst0) (k + 1) = _ at hs
    have hiv : Scf.iv 0#32 1#32 k = BitVec.ofNat 32 k := by
      have : ∀ k : Fin 10, Scf.iv 0#32 1#32 k.val = BitVec.ofNat 32 k.val := by decide
      exact this ⟨k, hk'⟩
    have hM := h.chM_at _ _ _ _ k hk'
    rw [hs, ih (by omega)]
    dsimp only
    rw [hiv, pre_succ _ k hk', pre_succ _ k hk', pre_succ _ k hk', pre_succ _ k hk']
    refine Prod.ext ?_ (Prod.ext ?_ ?_)
    · show k0_pay30 (F := Ideal) _ _ _ _ _ _ = _
      rw [cls_sum, h.base_chunk _ _ _ _ k hk']
      have e : ∀ j, _ := fun j => h.score_chunk _ _ _ _ k hk' j
      simp only [fun j => score_at _ _ j _ _ (hM j) (fun m => h.ldIou_at _ _ _ _ k hk' m j),
        fun j => label_at _ _ j _ L (hM j) (fun m => (h.tab_at _ _ _ _ m 4).trans (h.lab m)), e]
      rw [Lift.sum_coe, Lift.add_coe, Lift.sub_coe]
      exact congrArg (fun r : ℝ => (r : EReal)) (add_sub_add_comm' _ _ _ _)
    · show k0_pay3 (F := Ideal) _ _ _ _ _ _ _ = _
      rw [reg_sum, ← Lift.add_coe, ← Lift.sum_coe]
      refine congrArg (fun z : EReal => ((pre (regT TH A G XR) k : ℝ) : EReal) + z) ?_
      refine Finset.sum_congr rfl fun j _ => ?_
      obtain ⟨b0, b1, b2, b3⟩ := box_at (k0_pay2 (F := Ideal) v47) _ j _ G (hM j) (fun m s => (h.tab_at _ _ _ _ m _).trans (h.tab m s))
      rw [sides_at _ _ _ _ _ _ _ j (XR (col k hk' j)) (A (col k hk' j)) (G (pickK (mt TH A G (col k hk' j)))) (fun s b => h.ldReg_at _ _ _ _ k hk' s b j)
        (h.chX_at _ _ _ _ k hk' j) (h.chY_at _ _ _ _ k hk' j) b0 b1 b2 b3, pos_at _ j _ (hM j), Lift.mul_coe]
      rfl
    · show k0_pay27 (F := Ideal) _ _ _ = _
      rw [count_at _ _ _ hM]

end Cert.KernelIdeal.Kern

end
-- ==== Proof.Kernel.Result.lean ====
/- What the kernel's body stores, its five loops put together: one number at every position of the result. -/
module

public import proofs.«01_k».proof.Proof.Kernel.ScanLoop
public import proofs.«01_k».proof.Proof.Kernel.Nearest
public import proofs.«01_k».proof.Proof.Kernel.Loss

@[expose] public section

set_option maxRecDepth 16384
noncomputable section

namespace Cert.KernelIdeal.Kern

open Cert.Chunks Cert.KernelIdeal Cert.KernelIdeal.Gen Idealize.ShloMosaic Idealize.ShloMosaic.TcCoe Idealize.ShloMosaic.Tactic

/-- The thresholds of the table's rows: the boxes', and infinity below them. -/
def thE (A : Fin 20480 → Fin 4 → ℝ) (G : Fin 104 → Fin 4 → ℝ) (e : Fin 104 → Fin 10 → Fin 20480) (m : Fin 104) : EReal :=
  if m.val < 100 then ((Spec.thr fun j : Fin 9 => Spec.iou (A (e m (j.castLE (by norm_num)))) (G m) : ℝ) : EReal) else ⊤

/-- What the body is given, as real numbers. -/
structure BodyIn (x0 : Vec Ideal S8x20480 .f32) (x1 : Vec Ideal S104x128 .f32) (x2 : Vec Ideal S80x20480 .f32) (x3 : Vec Ideal S64x20480 .f32)
    (A : Fin 20480 → Fin 4 → ℝ) (G : Fin 104 → Fin 4 → ℝ) (L : Fin 104 → BitVec 32) (P : Fin 20480 → Fin 80 → ℝ)
    (XR : Fin 20480 → Fin 4 → Fin 16 → ℝ) (e : Fin 104 → Fin 10 → Fin 20480) : Prop where
  anc : ∀ (s : Fin 4) n, x0 (ix2 (s.castLE (by norm_num)) n) = (A n s : EReal)
  box : ∀ m (s : Fin 4), x1 (ix2 m (s.castLE (by norm_num))) = (G m s : EReal)
  lab : ∀ m, x1 (ix2 m 4) = (((L m).toInt : ℝ) : EReal)
  cls : ∀ cc n, n.val < 20000 → x2 (ix2 cc n) = (P n cc : EReal)
  reg : ∀ s b n, x3 (ix2 (row s b) n) = (XR n s b : EReal)
  near : ∀ m : Fin 104, m.val < 100 → Nearest (fun n => Spec.d2 (A n) (G m)) (e m)
  pad : ∀ n, 20000 ≤ n.val → ∀ m : Fin 104, m.val < 100 → ¬ Spec.Inside (A n) (G m)

/-- The number the body computes. -/
def total (TH : Fin 104 → EReal) (A : Fin 20480 → Fin 4 → ℝ) (G : Fin 104 → Fin 4 → ℝ) (L : Fin 104 → BitVec 32)
    (P : Fin 20480 → Fin 80 → ℝ) (XR : Fin 20480 → Fin 4 → Fin 16 → ℝ) : ℝ :=
  ((∑ n, clsT P n) - ∑ n, scoreT TH A G L P n) / max (∑ n, posR (mt TH A G n)) 1
    + (∑ n, regT TH A G XR n) / (max (∑ n, posR (mt TH A G n)) 1 * 4)

theorem pay4_at (a b d : ℝ) (i : Fin 8) (j : Fin 128) :
    k0_pay4 (F := Ideal) (a : EReal) (b : EReal) (d : EReal) (ix2 i j) = ((a / max d 1 + b / (max d 1 * 4) : ℝ) : EReal) := by
  unfold k0_pay4
  pointwise
  have h1 : max d 1 ≠ 0 := (lt_of_lt_of_le one_pos (le_max_right d 1)).ne'
  rw [Lift.four, Lift.one_coe, Lift.max_coe, Lift.mul_coe, Lift.div_coe _ _ h1, Lift.div_coe _ _ (mul_ne_zero h1 (by norm_num)), Lift.add_coe]

section
variable (c : Dev nD) (arg0 : Memref sig .tc .vmem S8x20480 .f32) (harg0 : arg0.IsWhole) (arg1 : Memref sig .tc .vmem S104x128 .f32) (harg1 : arg1.IsWhole) (arg2 : Memref sig .tc .vmem S80x20480 .f32) (harg2 : arg2.IsWhole) (arg3 : Memref sig .tc .vmem S64x20480 .f32) (harg3 : arg3.IsWhole) (arg4 : Memref sig .tc .vmem S8x128 .f32) (harg4 : arg4.IsWhole) (arg5 : Memref sig .tc .vmem S104x20480 .f32) (harg5 : arg5.IsWhole) (arg6 : Memref sig .tc .vmem S104x20480 .f32) (harg6 : arg6.IsWhole)
variable (x0 : Vec Ideal S8x20480 .f32) (x1 : Vec Ideal S104x128 .f32) (x2 : Vec Ideal S80x20480 .f32) (x3 : Vec Ideal S64x20480 .f32)
variable (f5 : BufTy.Contents (Elt Ideal) arg5.view.ty) (f6 : BufTy.Contents (Elt Ideal) arg6.view.ty)

/-- The four columns of the table of boxes. -/
abbrev box0 : Vec Ideal S104x1 .f32 := View.readAt (Elt Ideal) arg1.view (Rect.unit (s := S104x128) ![0, 0] S104x1.size inb_S104x128_S104x1_0_0).toLoadRect (harg1.unread x1)
abbrev box1 : Vec Ideal S104x1 .f32 := View.readAt (Elt Ideal) arg1.view (Rect.unit (s := S104x128) ![0, 1] S104x1.size inb_S104x128_S104x1_0_1).toLoadRect (harg1.unread x1)
abbrev box2 : Vec Ideal S104x1 .f32 := View.readAt (Elt Ideal) arg1.view (Rect.unit (s := S104x128) ![0, 2] S104x1.size inb_S104x128_S104x1_0_2).toLoadRect (harg1.unread x1)
abbrev box3 : Vec Ideal S104x1 .f32 := View.readAt (Elt Ideal) arg1.view (Rect.unit (s := S104x128) ![0, 3] S104x1.size inb_S104x128_S104x1_0_3).toLoadRect (harg1.unread x1)
/-- The table's five columns the last pass reads. -/
abbrev tab5 : Vec Ideal S104x5 .f32 := View.readAt (Elt Ideal) arg1.view (Rect.unit (s := S104x128) ![0, 0] S104x5.size inb_S104x128_S104x5_0_0).toLoadRect (harg1.unread x1)

/-- After the first pass: the least distances and what was stored. -/
abbrev after1 := st_k0_t1 (F := Ideal) Variants.none c none arg0 harg0 arg1 harg1 arg2 harg2 arg3 harg3 arg4 harg4 arg5 harg5 arg6 harg6
  (box0 arg1 harg1 x1) (box1 arg1 harg1 x1) (box2 arg1 harg1 x1) (box3 arg1 harg1 x1) (harg0.unread x0) k0_pay67 (Scf.trips k0_t1_loop.lb k0_t1_loop.ub k0_t1_loop.st)
/-- The stored distances. -/
abbrev dists : BufTy.Contents (Elt Ideal) arg5.view.ty :=
  arg5.view.writes (Elt Ideal) f5 (after1 c arg0 harg0 arg1 harg1 arg2 harg2 arg3 harg3 arg4 harg4 arg5 harg5 arg6 harg6 x0 x1).2.1
/-- The stored overlaps. -/
abbrev ious : BufTy.Contents (Elt Ideal) arg6.view.ty :=
  arg6.view.writes (Elt Ideal) f6 (after1 c arg0 harg0 arg1 harg1 arg2 harg2 arg3 harg3 arg4 harg4 arg5 harg5 arg6 harg6 x0 x1).2.2
/-- The ninth least distances. -/
abbrev after2 := st_k0_t2 (F := Ideal) Variants.none c none arg0 harg0 arg1 harg1 arg2 harg2 arg3 harg3 arg4 harg4 arg5 harg5 arg6 harg6
  (dists c arg0 harg0 arg1 harg1 arg2 harg2 arg3 harg3 arg4 harg4 arg5 harg5 arg6 harg6 x0 x1 f5)
  (after1 c arg0 harg0 arg1 harg1 arg2 harg2 arg3 harg3 arg4 harg4 arg5 harg5 arg6 harg6 x0 x1).1 (Scf.trips k0_t2_loop.lb k0_t2_loop.ub k0_t2_loop.st)
/-- The three sums over the nine nearest. -/
abbrev after4 := st_k0_t4 (F := Ideal) Variants.none c none arg0 harg0 arg1 harg1 arg2 harg2 arg3 harg3 arg4 harg4 arg5 harg5 arg6 harg6
  (after2 c arg0 harg0 arg1 harg1 arg2 harg2 arg3 harg3 arg4 harg4 arg5 harg5 arg6 harg6 x0 x1 f5)
  (dists c arg0 harg0 arg1 harg1 arg2 harg2 arg3 harg3 arg4 harg4 arg5 harg5 arg6 harg6 x0 x1 f5)
  (ious c arg0 harg0 arg1 harg1 arg2 harg2 arg3 harg3 arg4 harg4 arg5 harg5 arg6 harg6 x0 x1 f6)
  (k0_pay72, k0_pay72, k0_pay72) (Scf.trips k0_t4_loop.lb k0_t4_loop.ub k0_t4_loop.st)
/-- The last pass's three sums, from the three sums `s` over the nine nearest. -/
abbrev after5 (s : FVec Ideal S104x1 .f32 × FVec Ideal S104x1 .f32 × FVec Ideal S104x1 .f32) :=
  st_k0_t5 (F := Ideal) Variants.none c none arg0 harg0 arg1 harg1 arg2 harg2 arg3 harg3 arg4 harg4 arg5 harg5 arg6 harg6
  (k0_pay60 (box0 arg1 harg1 x1)) (k0_pay61 (box1 arg1 harg1 x1)) (k0_pay62 (box2 arg1 harg1 x1)) (k0_pay63 (box3 arg1 harg1 x1))
  rows104 k0_pay66 (k0_pay77 s.2.2) (k0_pay78 s.1 s.2.2) (k0_pay79 s.1 s.2.1 s.2.2) cst0 rows80 rows16 (tab5 arg1 harg1 x1) cols
  (harg0.unread x0) (harg2.unread x2) (harg3.unread x3)
  (ious c arg0 harg0 arg1 harg1 arg2 harg2 arg3 harg3 arg4 harg4 arg5 harg5 arg6 harg6 x0 x1 f6)
  (cst0, cst0, cst0) (Scf.trips k0_t5_loop.lb k0_t5_loop.ub k0_t5_loop.st)
/-- The stored result. -/
abbrev stored : FVec Ideal S8x128 .f32 :=
  k0_pay4 (after5 c arg0 harg0 arg1 harg1 arg2 harg2 arg3 harg3 arg4 harg4 arg5 harg5 arg6 harg6 x0 x1 x2 x3 f6 (after4 c arg0 harg0 arg1 harg1 arg2 harg2 arg3 harg3 arg4 harg4 arg5 harg5 arg6 harg6 x0 x1 f5 f6)).1
    (after5 c arg0 harg0 arg1 harg1 arg2 harg2 arg3 harg3 arg4 harg4 arg5 harg5 arg6 harg6 x0 x1 x2 x3 f6 (after4 c arg0 harg0 arg1 harg1 arg2 harg2 arg3 harg3 arg4 harg4 arg5 harg5 arg6 harg6 x0 x1 f5 f6)).2.1
    (after5 c arg0 harg0 arg1 harg1 arg2 harg2 arg3 harg3 arg4 harg4 arg5 harg5 arg6 harg6 x0 x1 x2 x3 f6 (after4 c arg0 harg0 arg1 harg1 arg2 harg2 arg3 harg3 arg4 harg4 arg5 harg5 arg6 harg6 x0 x1 f5 f6)).2.2

variable {x0 x1 x2 x3} {A : Fin 20480 → Fin 4 → ℝ} {G : Fin 104 → Fin 4 → ℝ} {L : Fin 104 → BitVec 32} {P : Fin 20480 → Fin 80 → ℝ}
  {XR : Fin 20480 → Fin 4 → Fin 16 → ℝ} {e : Fin 104 → Fin 10 → Fin 20480}

theorem box_col {v : Vec Ideal S104x1 .f32} (o : ℕ) (ho : o < 4) (inb : ∀ x, (![0, o] : Fin 2 → ℕ) x + S104x1.size x ≤ S104x128.size x)
    (hv : v = View.readAt (Elt Ideal) arg1.view (Rect.unit (s := S104x128) ![0, o] S104x1.size inb).toLoadRect (harg1.unread x1)) (m : Fin 104) :
    v (ix2 m 0) = x1 (ix2 m ⟨o, by omega⟩) := by
  rw [hv]
  refine (readAt_two arg1.view (harg1.unread x1) rfl inb m 0 (by omega) (by show o + 0 < 128; omega)).trans ?_
  rw [harg1.read_unread]
  refine congrArg₂ (fun a b => x1 (ix2 a b)) (Fin.ext ?_) (Fin.ext ?_)
  · show 0 + m.val = m.val; omega
  · show o + 0 = o; omega

theorem tab5_at (m : Fin 104) (s : Fin 5) : tab5 arg1 harg1 x1 (ix2 m s) = x1 (ix2 m (s.castLE (by norm_num))) := by
  refine (readAt_two arg1.view (harg1.unread x1) rfl inb_S104x128_S104x5_0_0 m s (by omega) (by omega)).trans ?_
  rw [harg1.read_unread]
  refine congrArg₂ (fun a b => x1 (ix2 a b)) (Fin.ext ?_) (Fin.ext ?_)
  · show 0 + m.val = m.val; omega
  · show 0 + s.val = s.val; omega

theorem stored_eq (h : BodyIn x0 x1 x2 x3 A G L P XR e) :
    stored c arg0 harg0 arg1 harg1 arg2 harg2 arg3 harg3 arg4 harg4 arg5 harg5 arg6 harg6 x0 x1 x2 x3 f5 f6
      = fun _ => ((total (thE A G e) A G L P XR : ℝ) : EReal) := by
  have b0 : ∀ m, box0 arg1 harg1 x1 (ix2 m 0) = (G m 0 : EReal) := fun m => (box_col arg1 harg1 0 (by norm_num) _ rfl m).trans (h.box m 0)
  have b1 : ∀ m, box1 arg1 harg1 x1 (ix2 m 0) = (G m 1 : EReal) := fun m => (box_col arg1 harg1 1 (by norm_num) _ rfl m).trans (h.box m 1)
  have b2 : ∀ m, box2 arg1 harg1 x1 (ix2 m 0) = (G m 2 : EReal) := fun m => (box_col arg1 harg1 2 (by norm_num) _ rfl m).trans (h.box m 2)
  have b3 : ∀ m, box3 arg1 harg1 x1 (ix2 m 0) = (G m 3 : EReal) := fun m => (box_col arg1 harg1 3 (by norm_num) _ rfl m).trans (h.box m 3)
  have scan : ScanIn arg0 (box0 arg1 harg1 x1) (box1 arg1 harg1 x1) (box2 arg1 harg1 x1) (box3 arg1 harg1 x1) (harg0.unread x0) A G :=
    ⟨fun r n => by rw [harg0.read_unread]; exact h.anc r n, b0, b1, b2, b3⟩
  obtain ⟨i1, i2, i3⟩ := st1_inv Variants.none c none arg0 harg0 arg1 harg1 arg2 harg2 arg3 harg3 arg4 harg4 arg5 harg5 arg6 harg6 _ _ _ _ _ scan 10 le_rfl
  have h5 : ∀ m n, arg5.view.read (Elt Ideal) (dists c arg0 harg0 arg1 harg1 arg2 harg2 arg3 harg3 arg4 harg4 arg5 harg5 arg6 harg6 x0 x1 f5) (ix2 m n) = (Spec.d2 (A n) (G m) : EReal) :=
    fun m n => i2 f5 m n (by omega)
  have h6 : ∀ m n, arg6.view.read (Elt Ideal) (ious c arg0 harg0 arg1 harg1 arg2 harg2 arg3 harg3 arg4 harg4 arg5 harg5 arg6 harg6 x0 x1 f6) (ix2 m n) = (Spec.iou (A n) (G m) : EReal) :=
    fun m n => i3 f6 m n (by omega)
  have h1 : ∀ (m : Fin 104) (y : EReal), y ≤ (after1 c arg0 harg0 arg1 harg1 arg2 harg2 arg3 harg3 arg4 harg4 arg5 harg5 arg6 harg6 x0 x1).1 (ix2 m 0) ↔ ∀ n, y ≤ (Spec.d2 (A n) (G m) : EReal) :=
    fun m y => (i1 m y).trans ⟨fun H n => H n (by omega), fun H n _ => H n⟩
  have hth : ∀ m, k0_pay1 k0_pay66 (k0_pay77 (after4 c arg0 harg0 arg1 harg1 arg2 harg2 arg3 harg3 arg4 harg4 arg5 harg5 arg6 harg6 x0 x1 f5 f6).2.2)
      (k0_pay78 (after4 c arg0 harg0 arg1 harg1 arg2 harg2 arg3 harg3 arg4 harg4 arg5 harg5 arg6 harg6 x0 x1 f5 f6).1 (after4 c arg0 harg0 arg1 harg1 arg2 harg2 arg3 harg3 arg4 harg4 arg5 harg5 arg6 harg6 x0 x1 f5 f6).2.2)
      (k0_pay79 (after4 c arg0 harg0 arg1 harg1 arg2 harg2 arg3 harg3 arg4 harg4 arg5 harg5 arg6 harg6 x0 x1 f5 f6).1 (after4 c arg0 harg0 arg1 harg1 arg2 harg2 arg3 harg3 arg4 harg4 arg5 harg5 arg6 harg6 x0 x1 f5 f6).2.1 (after4 c arg0 harg0 arg1 harg1 arg2 harg2 arg3 harg3 arg4 harg4 arg5 harg5 arg6 harg6 x0 x1 f5 f6).2.2)
      cst0 (ix2 m 0) = thE A G e m := by
    intro m
    unfold thE
    split
    · rename_i hm
      have hn := h.near m hm
      have e2 := st2_inv Variants.none c none arg0 harg0 arg1 harg1 arg2 harg2 arg3 harg3 arg4 harg4 arg5 harg5 arg6 harg6 h5 _ m (e m) hn (h1 m) 8 le_rfl
      obtain ⟨s1, s2, s3⟩ := st4_inv Variants.none c none arg0 harg0 arg1 harg1 arg2 harg2 arg3 harg3 arg4 harg4 arg5 harg5 arg6 harg6 h5 h6 _ m _ e2 10 le_rfl
      rw [pre_ten] at s1 s2 s3
      have q1 := hn.sum_near (fun n => Spec.iou (A n) (G m))
      have q2 := hn.sum_near (fun n => Spec.iou (A n) (G m) * Spec.iou (A n) (G m))
      have q3 := hn.sum_near (fun _ => (1 : ℝ))
      refine thr_at _ _ _ _ m hm (s1.trans (congrArg (fun r : ℝ => (r : EReal)) q1)) (s2.trans (congrArg (fun r : ℝ => (r : EReal)) q2)) (s3.trans (congrArg (fun r : ℝ => (r : EReal)) (q3.trans ?_)))
      simp
    · exact thr_pad _ _ _ m (by omega)
  have li : LossIn arg0 arg2 arg3 arg6 (k0_pay60 (box0 arg1 harg1 x1)) (k0_pay61 (box1 arg1 harg1 x1)) (k0_pay62 (box2 arg1 harg1 x1)) (k0_pay63 (box3 arg1 harg1 x1))
      k0_pay66 (k0_pay77 (after4 c arg0 harg0 arg1 harg1 arg2 harg2 arg3 harg3 arg4 harg4 arg5 harg5 arg6 harg6 x0 x1 f5 f6).2.2)
      (k0_pay78 (after4 c arg0 harg0 arg1 harg1 arg2 harg2 arg3 harg3 arg4 harg4 arg5 harg5 arg6 harg6 x0 x1 f5 f6).1 (after4 c arg0 harg0 arg1 harg1 arg2 harg2 arg3 harg3 arg4 harg4 arg5 harg5 arg6 harg6 x0 x1 f5 f6).2.2)
      (k0_pay79 (after4 c arg0 harg0 arg1 harg1 arg2 harg2 arg3 harg3 arg4 harg4 arg5 harg5 arg6 harg6 x0 x1 f5 f6).1 (after4 c arg0 harg0 arg1 harg1 arg2 harg2 arg3 harg3 arg4 harg4 arg5 harg5 arg6 harg6 x0 x1 f5 f6).2.1 (after4 c arg0 harg0 arg1 harg1 arg2 harg2 arg3 harg3 arg4 harg4 arg5 harg5 arg6 harg6 x0 x1 f5 f6).2.2)
      (tab5 arg1 harg1 x1) (harg0.unread x0) (harg2.unread x2) (harg3.unread x3)
      (ious c arg0 harg0 arg1 harg1 arg2 harg2 arg3 harg3 arg4 harg4 arg5 harg5 arg6 harg6 x0 x1 f6) (thE A G e) A G L P XR :=
    { g0 := fun m => (by unfold k0_pay60; pointwise : k0_pay60 (box0 arg1 harg1 x1) (ix2 m 0) = box0 arg1 harg1 x1 (ix2 m 0)).trans (b0 m)
      g1 := fun m => (by unfold k0_pay61; pointwise : k0_pay61 (box1 arg1 harg1 x1) (ix2 m 0) = box1 arg1 harg1 x1 (ix2 m 0)).trans (b1 m)
      g2 := fun m => (by unfold k0_pay62; pointwise : k0_pay62 (box2 arg1 harg1 x1) (ix2 m 0) = box2 arg1 harg1 x1 (ix2 m 0)).trans (b2 m)
      g3 := fun m => (by unfold k0_pay63; pointwise : k0_pay63 (box3 arg1 harg1 x1) (ix2 m 0) = box3 arg1 harg1 x1 (ix2 m 0)).trans (b3 m)
      th := hth
      tab := fun m s => (tab5_at arg1 harg1 m (s.castLE (by norm_num))).trans (h.box m s)
      lab := fun m => (tab5_at arg1 harg1 m 4).trans (h.lab m)
      anc := fun s n => by rw [harg0.read_unread]; exact h.anc s n
      cls := fun cc n hn => by rw [harg2.read_unread]; exact h.cls cc n hn
      reg := fun s b n => by rw [harg3.read_unread]; exact h.reg s b n
      iou := h6
      pad := fun n hn => by
        cases hb : Spec.best (fun m => PosE (A n) (G m) (thE A G e m)) with
        | none => rfl
        | some m =>
          have hp := (Spec.best_some hb).1
          by_cases hm : m.val < 100
          · exact absurd hp.2 (h.pad n hn m hm)
          · have := hp.1
            unfold thE at this
            rw [if_neg hm] at this
            exact absurd this (by simp) }
  have fin := st5_inv Variants.none c none arg0 harg0 arg1 harg1 arg2 harg2 arg3 harg3 arg4 harg4 arg5 harg5 arg6 harg6 li 10 le_rfl
  rw [pre_ten, pre_ten, pre_ten, pre_ten] at fin
  have fin' : after5 c arg0 harg0 arg1 harg1 arg2 harg2 arg3 harg3 arg4 harg4 arg5 harg5 arg6 harg6 x0 x1 x2 x3 f6 (after4 c arg0 harg0 arg1 harg1 arg2 harg2 arg3 harg3 arg4 harg4 arg5 harg5 arg6 harg6 x0 x1 f5 f6) = _ := fin
  unfold stored
  rw [fin']
  funext i
  rw [eq_ix2 i]
  exact pay4_at _ _ _ _ _
end

end Cert.KernelIdeal.Kern

end
-- ==== Proof.Kernel.Run.lean ====
/- The run of the kernel's body with its result named. -/
module

public import proofs.«01_k».proof.Proof.Gen.KernelIdeal.Frame.Runs
public import proofs.«01_k».proof.Proof.Kernel.Result
public import Idealize.ShloMosaic.Lib.VecWindow

@[expose] public section

-- the long axes need the depth
set_option maxRecDepth 16384

noncomputable section

namespace Cert.KernelIdeal.Kern

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

-- (the run's proof term is large: checking it walks past the default budget)
set_option maxHeartbeats 16000000 in
/-- The body's triple: on whole staging memrefs, the inputs' at contents that are real numbers as `BodyIn` says, the body
    runs to the continuation holding the inputs as they were, the result at one number everywhere, the scratch at some
    contents. -/
theorem body_run (c : Dev nD) (arg0 : Memref sig .tc .vmem S8x20480 .f32) (harg0 : arg0.IsWhole) (arg1 : Memref sig .tc .vmem S104x128 .f32) (harg1 : arg1.IsWhole) (arg2 : Memref sig .tc .vmem S80x20480 .f32) (harg2 : arg2.IsWhole) (arg3 : Memref sig .tc .vmem S64x20480 .f32) (harg3 : arg3.IsWhole) (arg4 : Memref sig .tc .vmem S8x128 .f32) (harg4 : arg4.IsWhole) (arg5 : Memref sig .tc .vmem S104x20480 .f32) (harg5 : arg5.IsWhole) (arg6 : Memref sig .tc .vmem S104x20480 .f32) (harg6 : arg6.IsWhole)
    (x0 : Vec Ideal S8x20480 .f32) (x1 : Vec Ideal S104x128 .f32) (x2 : Vec Ideal S80x20480 .f32) (x3 : Vec Ideal S64x20480 .f32)
    {A : Fin 20480 → Fin 4 → ℝ} {G : Fin 104 → Fin 4 → ℝ} {L : Fin 104 → BitVec 32} {P : Fin 20480 → Fin 80 → ℝ}
    {XR : Fin 20480 → Fin 4 → Fin 16 → ℝ} {e : Fin 104 → Fin 10 → Fin 20480} (h : BodyIn x0 x1 x2 x3 A G L P XR e) :
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (fun _ => ((total (thE A G e) A G L P XR : ℝ) : EReal)) ∗ (∃ d, owns (c : Thread nD τ) arg5 fullShare d) ∗ (∃ d, owns (c : Thread nD τ) arg6 fullShare d)) -∗ K ⟨⟩))
          ⊢ wp frame (wpE (defs₀ (F := Ideal)) Variants.none c none) E (cc0__body arg0 harg0 arg1 harg1 arg2 harg2 arg3 harg3 arg4 harg4 arg5 harg5 arg6 harg6) K := by
    intro E K
    simp only [cc0__body_eq_skeleton]; unfold cc0__body_skel
    simp only [k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, ⟨%ds1, %fs1, -, HS1⟩, Hk⟩
    obtain rfl := harg0.eq_unread hf0; obtain rfl := harg1.eq_unread hf1; obtain rfl := harg2.eq_unread hf2; obtain rfl := harg3.eq_unread hf3
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; swap; · iexact H4
      ipureintro
      exact (View.read_writes_full arg4.view f4 _ _ _).trans
        (stored_eq c arg0 harg0 arg1 harg1 arg2 harg2 arg3 harg3 arg4 harg4 arg5 harg5 arg6 harg6 fs0 fs1 h)
    isplitl [HS0]
    · iexists _, _; isplitr; swap; · iexact HS0
      ipureintro; rfl
    iexists _, _; isplitr; swap; · iexact HS1
    ipureintro; rfl

end Cert.KernelIdeal.Kern

end
-- ==== Proof.Kernel.Launch.lean ====
/- The launch with the result named: the kernel's pipeline leaves one number everywhere in the result array. -/
module

public import proofs.«01_k».proof.Proof.Kernel.Run
public import proofs.«01_k».proof.Proof.Frame.KernelIdealFrame
public import Idealize.ShloMosaic.Lib.Claim

@[expose] public section

set_option maxRecDepth 16384

noncomputable section

namespace Cert.KernelIdeal.Kern

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
variable (A : Dev nD → Fin 20480 → Fin 4 → ℝ) (G : Dev nD → Fin 104 → Fin 4 → ℝ) (L : Dev nD → Fin 104 → BitVec 32)
  (P : Dev nD → Fin 20480 → Fin 80 → ℝ) (XR : Dev nD → Fin 20480 → Fin 4 → Fin 16 → ℝ) (e : Dev nD → Fin 104 → Fin 10 → Fin 20480)

/-- The operands of the kernel's call, as real numbers. -/
abbrev CallIn : Prop := ∀ c : Dev nD, BodyIn (V m c main_v1) (V m c main_v16) (V m c main_v3) (V m c main_v6) (A c) (G c) (L c) (P c) (XR c) (e c)

/-- The number core `c` computes. -/
def tot (c : Dev nD) : ℝ := total (thE (A c) (G c) (e c)) (A c) (G c) (L c) (P c) (XR c)

/-! ## A window's block is its whole array -/

theorem idx_zero0 : ∀ t : Fin cfg0.N, win0_0.index t (0 : Fin 2) = 0 ∧ win0_0.index t (1 : Fin 2) = 0 := (by decide +kernel : ∀ t : Fin grid0.N, _)
theorem idx_zero1 : ∀ t : Fin cfg0.N, win0_1.index t (0 : Fin 2) = 0 ∧ win0_1.index t (1 : Fin 2) = 0 := (by decide +kernel : ∀ t : Fin grid0.N, _)
theorem idx_zero2 : ∀ t : Fin cfg0.N, win0_2.index t (0 : Fin 2) = 0 ∧ win0_2.index t (1 : Fin 2) = 0 := (by decide +kernel : ∀ t : Fin grid0.N, _)
theorem idx_zero3 : ∀ t : Fin cfg0.N, win0_3.index t (0 : Fin 2) = 0 ∧ win0_3.index t (1 : Fin 2) = 0 := (by decide +kernel : ∀ t : Fin grid0.N, _)
theorem idx_zero4 : ∀ t : Fin cfg0.N, win0_4.index t (0 : Fin 2) = 0 ∧ win0_4.index t (1 : Fin 2) = 0 := (by decide +kernel : ∀ t : Fin grid0.N, _)

theorem emb0 (t : Fin cfg0.N) (j : S8x20480.Idx) : ((cfg0.win 0).blk t).view.emb j = j := by
  obtain ⟨e0, e1⟩ := idx_zero0 t
  funext a; apply Fin.ext
  match a with
  | ⟨0, _⟩ => show win0_0.index t (0 : Fin 2) * 8 + 1 * (j 0).val = (j 0).val; omega
  | ⟨1, _⟩ => show win0_0.index t (1 : Fin 2) * 20480 + 1 * (j 1).val = (j 1).val; omega

theorem iblk0_eq (c : Dev nD) (t : Fin cfg0.N) : iblk m c 0 t = V m c main_v1 := by
  funext j; show V m c main_v1 (((cfg0.win 0).blk t).view.emb j) = V m c main_v1 j; rw [emb0]

theorem emb1 (t : Fin cfg0.N) (j : S104x128.Idx) : ((cfg0.win 1).blk t).view.emb j = j := by
  obtain ⟨e0, e1⟩ := idx_zero1 t
  funext a; apply Fin.ext
  match a with
  | ⟨0, _⟩ => show win0_1.index t (0 : Fin 2) * 104 + 1 * (j 0).val = (j 0).val; omega
  | ⟨1, _⟩ => show win0_1.index t (1 : Fin 2) * 128 + 1 * (j 1).val = (j 1).val; omega

theorem iblk1_eq (c : Dev nD) (t : Fin cfg0.N) : iblk m c 1 t = V m c main_v16 := by
  funext j; show V m c main_v16 (((cfg0.win 1).blk t).view.emb j) = V m c main_v16 j; rw [emb1]

theorem emb2 (t : Fin cfg0.N) (j : S80x20480.Idx) : ((cfg0.win 2).blk t).view.emb j = j := by
  obtain ⟨e0, e1⟩ := idx_zero2 t
  funext a; apply Fin.ext
  match a with
  | ⟨0, _⟩ => show win0_2.index t (0 : Fin 2) * 80 + 1 * (j 0).val = (j 0).val; omega
  | ⟨1, _⟩ => show win0_2.index t (1 : Fin 2) * 20480 + 1 * (j 1).val = (j 1).val; omega

theorem iblk2_eq (c : Dev nD) (t : Fin cfg0.N) : iblk m c 2 t = V m c main_v3 := by
  funext j; show V m c main_v3 (((cfg0.win 2).blk t).view.emb j) = V m c main_v3 j; rw [emb2]

theorem emb3 (t : Fin cfg0.N) (j : S64x20480.Idx) : ((cfg0.win 3).blk t).view.emb j = j := by
  obtain ⟨e0, e1⟩ := idx_zero3 t
  funext a; apply Fin.ext
  match a with
  | ⟨0, _⟩ => show win0_3.index t (0 : Fin 2) * 64 + 1 * (j 0).val = (j 0).val; omega
  | ⟨1, _⟩ => show win0_3.index t (1 : Fin 2) * 20480 + 1 * (j 1).val = (j 1).val; omega

theorem iblk3_eq (c : Dev nD) (t : Fin cfg0.N) : iblk m c 3 t = V m c main_v6 := by
  funext j; show V m c main_v6 (((cfg0.win 3).blk t).view.emb j) = V m c main_v6 j; rw [emb3]

theorem emb4 (t : Fin cfg0.N) (j : S8x128.Idx) : ((cfg0.win 4).blk t).view.emb j = j := by
  obtain ⟨e0, e1⟩ := idx_zero4 t
  funext a; apply Fin.ext
  match a with
  | ⟨0, _⟩ => show win0_4.index t (0 : Fin 2) * 8 + 1 * (j 0).val = (j 0).val; omega
  | ⟨1, _⟩ => show win0_4.index t (1 : Fin 2) * 128 + 1 * (j 1).val = (j 1).val; omega

/-! ## The pipeline's proof data -/

/-- The proof data of the one pipeline on core `c`: the arrays as the region finds them (`V`); after the body at
    point `t` each input's buffer at its block and the result's at its number; the invariant the class's
    (Lib/Pipeline/Frame.lean `ΦA`: the scoped rest and the generator register); nothing owed; full shares. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (fun _ => ((tot A G L P XR e c : ℝ) : EReal) : Vec Ideal S8x128 .f32)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eqV (c : Dev nD) (w : Fin cfg0.W) : (datsV m A G L P XR e 0 c).A w = V m c (Pipeline.arrRef spec0 w) := by
  dsimp only [datsV]

/-- What the body leaves, window by window (the proof data's `match` reduced by `dsimp`). -/
theorem after0_0V (c : Dev nD) (t : Fin cfg0.N) : (datsV m A G L P XR e 0 c).after 0 t = iblk m c 0 t := by dsimp only [datsV]
theorem after0_1V (c : Dev nD) (t : Fin cfg0.N) : (datsV m A G L P XR e 0 c).after 1 t = iblk m c 1 t := by dsimp only [datsV]
theorem after0_2V (c : Dev nD) (t : Fin cfg0.N) : (datsV m A G L P XR e 0 c).after 2 t = iblk m c 2 t := by dsimp only [datsV]
theorem after0_3V (c : Dev nD) (t : Fin cfg0.N) : (datsV m A G L P XR e 0 c).after 3 t = iblk m c 3 t := by dsimp only [datsV]
theorem after0_4V (c : Dev nD) (t : Fin cfg0.N) : (datsV m A G L P XR e 0 c).after 4 t = (fun _ => ((tot A G L P XR e c : ℝ) : EReal) : Vec Ideal S8x128 .f32) := by dsimp only [datsV]

/-- Each input's current staging buffer holds its block at every point, fetched there or not (`beforeK_W_of`). -/
theorem before0_0V (c : Dev nD) (t : Fin cfg0.N) (d) : (datsV m A G L P XR e 0 c).before 0 t d = iblk m c 0 t :=
  before0_0_of m (datsV m A G L P XR e 0 c) (A_eqV m A G L P XR e c 0) (after0_0V m A G L P XR e c) t d
theorem before0_1V (c : Dev nD) (t : Fin cfg0.N) (d) : (datsV m A G L P XR e 0 c).before 1 t d = iblk m c 1 t :=
  before0_1_of m (datsV m A G L P XR e 0 c) (A_eqV m A G L P XR e c 1) (after0_1V m A G L P XR e c) t d
theorem before0_2V (c : Dev nD) (t : Fin cfg0.N) (d) : (datsV m A G L P XR e 0 c).before 2 t d = iblk m c 2 t :=
  before0_2_of m (datsV m A G L P XR e 0 c) (A_eqV m A G L P XR e c 2) (after0_2V m A G L P XR e c) t d
theorem before0_3V (c : Dev nD) (t : Fin cfg0.N) (d) : (datsV m A G L P XR e 0 c).before 3 t d = iblk m c 3 t :=
  before0_3_of m (datsV m A G L P XR e 0 c) (A_eqV m A G L P XR e c 3) (after0_3V m A G L P XR e c) t d

/-! ## The body obligation, at a generic point -/

/-- What the body is called with at point `t` (Lib/Pipeline.lean `BodyObligation`'s precondition, the windows one by one), -/
def bodyPreV (c : Dev nD) (t : Fin cfg0.N) : sProp 𝕄 :=
  iprop((datsV m A G L P XR e 0 c).Φ t.castSucc ∗ (datsV m A G L P XR e 0 c).owesAt () t.castSucc
    ∗ (∃ d, owns (c : Thread nD τ) (ms0_0 t) fullShare ((datsV m A G L P XR e 0 c).before 0 t d))
    ∗ (∃ d, owns (c : Thread nD τ) (ms0_1 t) fullShare ((datsV m A G L P XR e 0 c).before 1 t d))
    ∗ (∃ d, owns (c : Thread nD τ) (ms0_2 t) fullShare ((datsV m A G L P XR e 0 c).before 2 t d))
    ∗ (∃ d, owns (c : Thread nD τ) (ms0_3 t) fullShare ((datsV m A G L P XR e 0 c).before 3 t d))
    ∗ (∃ d, owns (c : Thread nD τ) (ms0_4 t) fullShare ((datsV m A G L P XR e 0 c).before 4 t d)))

/-- and what it returns. -/
def bodyPostV (c : Dev nD) (t : Fin cfg0.N) : sProp 𝕄 :=
  iprop((datsV m A G L P XR e 0 c).Φ t.succ ∗ (datsV m A G L P XR e 0 c).owesAt () t.succ
    ∗ owns (c : Thread nD τ) (ms0_0 t) fullShare ((datsV m A G L P XR e 0 c).after 0 t)
    ∗ owns (c : Thread nD τ) (ms0_1 t) fullShare ((datsV m A G L P XR e 0 c).after 1 t)
    ∗ owns (c : Thread nD τ) (ms0_2 t) fullShare ((datsV m A G L P XR e 0 c).after 2 t)
    ∗ owns (c : Thread nD τ) (ms0_3 t) fullShare ((datsV m A G L P XR e 0 c).after 3 t)
    ∗ owns (c : Thread nD τ) (ms0_4 t) fullShare ((datsV m A G L P XR e 0 c).after 4 t))

/-- The body at any point: the inputs' memrefs hold their blocks (`before0_W`); so the
    run applies; the invariant hands the body its scratch buffers at some contents (and the generator register) and takes them back at some contents (`PhiA_eq`); the core owes nothing throughout. -/
theorem sound_bodyV (h : CallIn m A G L P XR e) (c : Dev nD) (t : Fin cfg0.N) :
    bodyPreV m A G L P XR e c t ⊢ wp frame (wpE (defs₀ ) Variants.none c none) Set.univ (bodyAt0 t) (fun _ => bodyPostV m A G L P XR e c t) := by
  have hin : BodyIn (iblk m c 0 t) (iblk m c 1 t) (iblk m c 2 t) (iblk m c 3 t) (A c) (G c) (L c) (P c) (XR c) (e c) := by
    rw [iblk0_eq, iblk1_eq, iblk2_eq, iblk3_eq]; exact h c
  unfold bodyPreV bodyPostV bodyAt0
  simp only [before0_0V, before0_1V, before0_2V, before0_3V]
  rw [show (datsV m A G L P XR e 0 c).Φ t.succ = (datsV m A G L P XR e 0 c).Φ t.castSucc from rfl,
    show (datsV m A G L P XR e 0 c).owesAt () t.succ = (datsV m A G L P XR e 0 c).owesAt () t.castSucc from rfl,
    after0_0V, after0_1V, after0_2V, after0_3V, after0_4V]
  rw [show (datsV m A G L P XR e 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩⟩
  iapply ((body_run c _ _ _ _ _ _ _ _ _ _ _ _ _ _ (iblk m c 0 t) (iblk m c 1 t) (iblk m c 2 t) (iblk m c 3 t) hin) Set.univ _)
  isplitl [H0]; · iexact H0
  isplitl [H1]; · iexact H1
  isplitl [H2]; · iexact H2
  isplitl [H3]; · iexact H3
  isplitl [H4]; · iexists _; iexact H4
  isplitl [HS0]; · iexact HS0
  isplitl [HS1]; · iexact HS1
  iintro ⟨H0, H1, H2, H3, H4, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  iexact H4

/-- The library's body obligation, at every point: the body's triple restated (Lib/Pipeline/FrameBody.lean `triple_restated`). -/
theorem body_obligationV (h : CallIn m A G L P XR e) (c : Dev nD) : BodyObligation (datsV m A G L P XR e 0 c) (defs₀ (F := Ideal)) Variants.none () Set.univ := fun t => by
  rw [bigSep_W0, bigSep_W0, defs₀_row]
  exact triple_restated (sound_bodyV m A G L P XR e h c t) rfl .rfl fun _ => .rfl

/-! ## The run -/

set_option backward.isDefEq.respectTransparency.types false in
/-- The launch: every array of the pipeline at its contents after the last point, every other buffer as the call finds it. -/
theorem run_mainV (h : CallIn m A G L P XR e) : θ_run defs (onTc (τ := τ) (main (F := Ideal))) (s₀ m ρ) (Pipeline.FramePost cfgs (datsV m A G L P XR e) 0 (V m)) :=
  Pipeline.θ_run_frame cfgs (datsV m A G L P XR e) (0 : Fin 1) launch0 defs₀ Variants.none m ρ main
    (hbody := fun c => (body_obligationV m A G L P XR e h c).loose) (hshare := fun c => (datsV m A G L P XR e 0 c).share_full fun _ => rfl)
    (howed := fun _ _ => rfl) (V := V m) (hmain := hmain m Variants.none) (hA := A_eqV m A G L P XR e) (hΦ := fun _ _ => rfl)

/-- What the point writes back. -/
theorem flushed4_eq (c : Dev nD) (t : Fin cfg0.N) :
    (datsV m A G L P XR e 0 c).flushed 4 t = ((cfg0.win 4).blk t).view.read (Elt Ideal) (fun _ => ((tot A G L P XR e c : ℝ) : EReal) : Vec Ideal S8x128 .f32) := by
  show (cfg0.win 4).cut (grid0.coords t) ((datsV m A G L P XR e 0 c).after 4 t) = _
  rw [after0_4V]
  rfl

/-- Every index of the result array is in the point's block. -/
theorem covered4 (i : S8x128.Idx) : ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩

theorem final4 (c : Dev nD) : (datsV m A G L P XR e 0 c).arrAt 4 cfg0.N = (fun _ => ((tot A G L P XR e c : ℝ) : EReal) : Vec Ideal S8x128 .f32) :=
  (datsV m A G L P XR e 0 c).arrAt_eq_of_cover 4 (fun _ => ((tot A G L P XR e c : ℝ) : EReal) : Vec Ideal S8x128 .f32) (fun t _ => flushed4_eq m A G L P XR e c t) covered4

/-- The run: the result array at its number, the arguments as they were. -/
theorem run (h : CallIn m A G L P XR e) : θ_run defs (onTc (τ := τ) (main (F := Ideal))) ⟨m, fun _ => 0, ρ⟩ (fun r => ∀ c : Dev nD,
      r.2.mem ((c.tc : Thread nD τ).loc main_v17) = (fun _ => ((tot A G L P XR e c : ℝ) : EReal) : Vec Ideal S8x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).1 4).trans (final4 m A G L P XR e c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c)⟩) (run_mainV m ρ A G L P XR e h)

end Cert.KernelIdeal.Kern

end
-- ==== Proof.Kernel.Host.lean ====
/- The operands of the kernel's call: what the host computes before it, from the arguments. -/
module

public import proofs.«01_k».proof.Proof.Gen.KernelIdeal.Frame.Runs
public import Idealize.ShloMosaic.Lib.StableHlo.RunRead
public import Idealize.ShloMosaic.Lib.Pointwise

@[expose] public section

set_option maxRecDepth 16384
noncomputable section

namespace Cert.KernelIdeal.Kern

open Cert.KernelIdeal Cert.KernelIdeal.Gen Idealize.ShloMosaic Idealize.ShloMosaic.TcCoe Idealize.ShloMosaic.Tactic

/-- The start of a write into the table at row and column. -/
abbrev start (r c : BitVec 32) : Vec Ideal S2 .i32 :=
  concatenate S2 0 [⟨S1, (broadcastInDim S1 ![] bcast_S_S1 (constantI S_ 32 r) : Vec Ideal S1 .i32)⟩, ⟨S1, (broadcastInDim S1 ![] bcast_S_S1 (constantI S_ 32 c) : Vec Ideal S1 .i32)⟩] concatenates_S1_S1_S2_d0

variable (m : (ℓ : Loc nD τ sig) → Buf (Elt Ideal) ℓ)

theorem V_anchors (c : Dev nD) : V m c main_v1 = (pad S8x20480 ![0, 0] ![4, 480] ![0, 0]
    (transpose S4x20000 [1, 0] (m ((c : Thread nD τ).loc main_arg2)) transposes_S20000x4_S4x20000_1_0 : Vec Ideal S4x20000 .f32)
    (constant (F := Ideal) S_ .f32 0x49742400#32) pads_S4x20000_S8x20480_040_04800 h_S_ : Vec Ideal S8x20480 .f32) := by
  simp only [V, hostOps0, hostOps0_1, hostOps0_2, hostOps0_3, hostOps0_4, hostOps0_5, hostOps0_6, List.flatten_cons, List.flatten_nil, List.append_nil, List.cons_append, List.nil_append]
  after_reads_simp
  rfl
theorem V_logits (c : Dev nD) : V m c main_v3 = (pad S80x20480 ![0, 0] ![0, 480] ![0, 0]
    (transpose S80x20000 [1, 0] (m ((c : Thread nD τ).loc main_arg0)) transposes_S20000x80_S80x20000_1_0 : Vec Ideal S80x20000 .f32)
    (constant (F := Ideal) S_ .f32 0xC2C80000#32) pads_S80x20000_S80x20480_000_04800 h_S_ : Vec Ideal S80x20480 .f32) := by
  simp only [V, hostOps0, hostOps0_1, hostOps0_2, hostOps0_3, hostOps0_4, hostOps0_5, hostOps0_6, List.flatten_cons, List.flatten_nil, List.append_nil, List.cons_append, List.nil_append]
  after_reads_simp
  rfl
theorem V_regs (c : Dev nD) : V m c main_v6 = (pad S64x20480 ![0, 0] ![0, 480] ![0, 0]
    (transpose S64x20000 [1, 0] (shapeCast S20000x64 (m ((c : Thread nD τ).loc main_arg1)) shapeCasts_S20000x4x16_S20000x64 : Vec Ideal S20000x64 .f32) transposes_S20000x64_S64x20000_1_0 : Vec Ideal S64x20000 .f32)
    (sitofp (F := Ideal) .f32 (constantI S_ 32 0#32)) pads_S64x20000_S64x20480_000_04800 h_S_ : Vec Ideal S64x20480 .f32) := by
  simp only [V, hostOps0, hostOps0_1, hostOps0_2, hostOps0_3, hostOps0_4, hostOps0_5, hostOps0_6, List.flatten_cons, List.flatten_nil, List.append_nil, List.cons_append, List.nil_append]
  after_reads_simp
  rfl
theorem V_table (c : Dev nD) : V m c main_v16 = (Host.scatter scatter_S104x128_S2_S100_0_1_01_0 (fun _ b => b)
    (Host.scatter scatter_S104x128_S2_S100x4_01_n_01_0 (fun _ b => b)
      (broadcastInDim S104x128 ![] bcast_S_S104x128 (constant (F := Ideal) S_ .f32 0x00000000#32) : Vec Ideal S104x128 .f32)
      (start 0#32 0#32) (m ((c : Thread nD τ).loc main_arg3)) : Vec Ideal S104x128 .f32)
    (start 0#32 4#32) (sitofp (F := Ideal) .f32 (m ((c : Thread nD τ).loc main_arg4))) : Vec Ideal S104x128 .f32) := by
  simp only [V, hostOps0, hostOps0_1, hostOps0_2, hostOps0_3, hostOps0_4, hostOps0_5, hostOps0_6, List.flatten_cons, List.flatten_nil, List.append_nil, List.cons_append, List.nil_append]
  after_reads_simp
  rfl
end Cert.KernelIdeal.Kern
end
-- ==== Proof.Kernel.Total.lean ====
/- The number the kernel's body computes over its padded arrays is the loss of the arrays before padding. -/
module

public import proofs.«01_k».proof.Proof.Kernel.Result

@[expose] public section

set_option maxRecDepth 16384
noncomputable section

namespace Cert.KernelIdeal.Kern

open Cert.Chunks Cert.KernelIdeal Idealize.ShloMosaic

theorem best_eq_some {K : ℕ} {P : Fin K → Prop} {m : Fin K} (h : P m) (hm : ∀ m', P m' → m' ≤ m) : Spec.best P = some m := by
  cases hb : Spec.best P with
  | none => exact absurd h (Spec.best_none hb m)
  | some m' =>
    obtain ⟨h1, h2⟩ := Spec.best_some hb
    exact congrArg some (le_antisymm (hm _ h1) (h2 _ h))

theorem best_eq_none {K : ℕ} {P : Fin K → Prop} (h : ∀ m, ¬ P m) : Spec.best P = none := by
  cases hb : Spec.best P with
  | none => rfl
  | some m => exact absurd (Spec.best_some hb).1 (h m)

/-- A sum over the padded columns whose terms vanish in the padding. -/
theorem sum_pad (f : Fin 20480 → ℝ) (f' : Fin 20000 → ℝ) (h : ∀ n : Fin 20000, f (n.castLE (by norm_num)) = f' n) (h0 : ∀ n, 20000 ≤ n.val → f n = 0) :
    ∑ n, f n = ∑ n, f' n := by
  have : ∑ n : Fin (20000 + 480), f n = ∑ n, f' n := by
    rw [Fin.sum_univ_add, Finset.sum_eq_zero (s := Finset.univ) (f := fun i : Fin 480 => f (Fin.natAdd 20000 i)), add_zero]
    · exact Finset.sum_congr rfl fun n _ => h n
    · intro i _; exact h0 _ (by show 20000 ≤ 20000 + i.val; omega)
  exact this

section
variable (a : Fin 20000 → Fin 4 → ℝ) (g : Fin 100 → Fin 4 → ℝ) (p : Fin 20000 → Fin 80 → ℝ)
  (x : Fin 20000 → Fin 4 → Fin 16 → ℝ) (lab : Fin 100 → BitVec 32) (e : Fin 100 → Fin 10 → Fin 20000)

/-- The anchors, padded by a far-away one. -/
def padA (n : Fin 20480) (s : Fin 4) : ℝ := if h : n.val < 20000 then a ⟨n.val, h⟩ s else 1000000
/-- The boxes, padded by zeros. -/
def padG (m : Fin 104) (s : Fin 4) : ℝ := if h : m.val < 100 then g ⟨m.val, h⟩ s else 0
/-- The labels, padded by zeros. -/
def padL (m : Fin 104) : BitVec 32 := if h : m.val < 100 then lab ⟨m.val, h⟩ else 0#32
/-- The logits; what pads them is not read. -/
def padP (n : Fin 20480) (c : Fin 80) : ℝ := if h : n.val < 20000 then p ⟨n.val, h⟩ c else 0
/-- The regression logits, padded by zeros. -/
def padX (n : Fin 20480) (s : Fin 4) (b : Fin 16) : ℝ := if h : n.val < 20000 then x ⟨n.val, h⟩ s b else 0
/-- The nearest anchors' places among the padded ones. -/
def padE (m : Fin 104) (i : Fin 10) : Fin 20480 := if h : m.val < 100 then (e ⟨m.val, h⟩ i).castLE (by norm_num) else 0

/-- The thresholds. -/
def thr (m : Fin 100) : ℝ := Spec.thr fun j : Fin 9 => Spec.iou (a (e m (j.castLE (by norm_num)))) (g m)

theorem padA_in (n : Fin 20000) : padA a (n.castLE (by norm_num)) = a n := funext fun s => dif_pos n.isLt
theorem padG_in (m : Fin 100) : padG g (m.castLE (by norm_num)) = g m := funext fun s => dif_pos m.isLt
theorem padL_in (m : Fin 100) : padL lab (m.castLE (by norm_num)) = lab m := dif_pos m.isLt
theorem padP_in (n : Fin 20000) : padP p (n.castLE (by norm_num)) = p n := funext fun s => dif_pos n.isLt
theorem padX_in (n : Fin 20000) : padX x (n.castLE (by norm_num)) = x n := funext fun s => funext fun b => dif_pos n.isLt
theorem padE_in (m : Fin 100) (i : Fin 10) : padE e (m.castLE (by norm_num)) i = (e m i).castLE (by norm_num) := dif_pos m.isLt

theorem thE_in (m : Fin 100) : thE (padA a) (padG g) (padE e) (m.castLE (by norm_num)) = ((thr a g e m : ℝ) : EReal) := by
  unfold thE thr
  rw [if_pos (show (m.castLE (by norm_num : 100 ≤ 104)).val < 100 from m.isLt)]
  refine congrArg (fun v => ((Spec.thr v : ℝ) : EReal)) (funext fun j => ?_)
  rw [padE_in, padA_in, padG_in]

theorem posE_in (n : Fin 20000) (m : Fin 100) :
    PosE (padA a (n.castLE (by norm_num))) (padG g (m.castLE (by norm_num))) (thE (padA a) (padG g) (padE e) (m.castLE (by norm_num)))
      ↔ Spec.Pos a g (thr a g e) n m := by
  rw [padA_in, padG_in, thE_in]
  exact and_congr_left fun _ => EReal.coe_le_coe_iff

theorem posE_out (n : Fin 20480) (m : Fin 104) (hm : 100 ≤ m.val) :
    ¬ PosE (padA a n) (padG g m) (thE (padA a) (padG g) (padE e) m) := by
  intro h
  have := h.1
  unfold thE at this
  rw [if_neg (by omega)] at this
  exact absurd this (by simp)

theorem mt_in (n : Fin 20000) :
    mt (thE (padA a) (padG g) (padE e)) (padA a) (padG g) (n.castLE (by norm_num)) = (Spec.matched a g (thr a g e) n).map (Fin.castLE (by norm_num)) := by
  unfold mt
  cases hb : Spec.matched a g (thr a g e) n with
  | none =>
    refine best_eq_none fun m hp => ?_
    by_cases hm : m.val < 100
    · exact Spec.best_none hb ⟨m.val, hm⟩ ((posE_in a g e n ⟨m.val, hm⟩).1 hp)
    · exact posE_out a g e _ m (by omega) hp
  | some k =>
    obtain ⟨h1, h2⟩ := Spec.best_some hb
    refine best_eq_some ((posE_in a g e n k).2 h1) fun m hp => ?_
    by_cases hm : m.val < 100
    · have := h2 ⟨m.val, hm⟩ ((posE_in a g e n ⟨m.val, hm⟩).1 hp)
      exact this
    · exact absurd hp (posE_out a g e _ m (by omega))

/-- The padded boxes never hold a padded anchor. -/
theorem mt_out (hg : ∀ m s, g m s ≤ 300000) (n : Fin 20480) (hn : 20000 ≤ n.val) :
    mt (thE (padA a) (padG g) (padE e)) (padA a) (padG g) n = none := by
  refine best_eq_none fun m hp => ?_
  by_cases hm : m.val < 100
  · have h2 := hp.2.2.1
    have e0 : padA a n = fun _ => 1000000 := funext fun s => dif_neg (by omega)
    have e1 : padG g m 2 = g ⟨m.val, hm⟩ 2 := dif_pos hm
    rw [e0, e1] at h2
    have := hg ⟨m.val, hm⟩ 2
    unfold Spec.cx at h2
    norm_num at h2
    linarith
  · exact posE_out a g e _ m (by omega) hp

theorem total_eq (hg : ∀ m s, g m s ≤ 300000) :
    total (thE (padA a) (padG g) (padE e)) (padA a) (padG g) (padL lab) (padP p) (padX x) = Spec.loss a g p x lab (thr a g e) := by
  have lt (n : Fin 20000) : (n.castLE (by norm_num : 20000 ≤ 20480)).val < 20000 := n.isLt
  have hc : ∑ n, clsT (padP p) n = ∑ n, ∑ c, Spec.base (p n c) :=
    sum_pad _ _ (fun n => by unfold clsT; rw [if_pos (lt n), padP_in]) fun n hn => if_neg (by omega)
  have hs : ∑ n, scoreT (thE (padA a) (padG g) (padE e)) (padA a) (padG g) (padL lab) (padP p) n
      = ∑ n, Spec.score a g (thr a g e) n * Spec.labelLogit a g p lab (thr a g e) n := by
    refine sum_pad _ _ (fun n => ?_) fun n hn => if_neg (by omega)
    unfold scoreT Spec.score Spec.labelLogit
    rw [if_pos (lt n), mt_in]
    cases Spec.matched a g (thr a g e) n with
    | none => simp [posR]
    | some m =>
      show Spec.iou (padA a _) (padG g (m.castLE (by norm_num : 100 ≤ 104))) * 1 * (∑ cc : Fin 80, if BitVec.ofNat 32 cc.val = padL lab (m.castLE (by norm_num : 100 ≤ 104)) then padP p _ cc else 0) = _
      rw [padA_in, padG_in, padL_in, padP_in, mul_one]; rfl
  have hp : ∑ n, posR (mt (thE (padA a) (padG g) (padE e)) (padA a) (padG g) n) = Spec.count a g (thr a g e) := by
    refine sum_pad _ _ (fun n => ?_) fun n hn => by rw [mt_out a g e hg n hn]; rfl
    rw [mt_in]
    cases Spec.matched a g (thr a g e) n with
    | none => simp [posR]
    | some m => simp [posR]
  have hr : ∑ n, regT (thE (padA a) (padG g) (padE e)) (padA a) (padG g) (padX x) n = ∑ n, Spec.regTerm a g x (thr a g e) n := by
    refine sum_pad _ _ (fun n => ?_) fun n hn => by unfold regT; rw [mt_out a g e hg n hn]; exact mul_zero _
    unfold regT Spec.regTerm
    rw [mt_in]
    cases Spec.matched a g (thr a g e) n with
    | none => simp [posR]
    | some m =>
      show (∑ s, Spec.dfl (padX x _ s) (Spec.side (padA a _) (padG g (m.castLE (by norm_num : 100 ≤ 104))) s)) * 1 = _
      rw [padA_in, padG_in, padX_in, mul_one]; rfl
  unfold total Spec.loss
  rw [hc, hs, hp, hr]

/-- The ten nearest of the anchors are the ten nearest of the padded ones. -/
theorem near_pad (ha : ∀ n s, |a n s| ≤ 300000) (hg : ∀ m s, |g m s| ≤ 300000) (m : Fin 100) (h : Nearest (fun n => Spec.d2 (a n) (g m)) (e m)) :
    Nearest (fun n => Spec.d2 (padA a n) (padG g (m.castLE (by norm_num)))) (padE e (m.castLE (by norm_num))) := by
  have far (n : Fin 20480) (hn : 20000 ≤ n.val) (n' : Fin 20000) : Spec.d2 (a n') (g m) ≤ Spec.d2 (padA a n) (g m) := by
    have e0 : padA a n = fun _ => 1000000 := funext fun s => dif_neg (by omega)
    rw [e0]
    have cxa : |Spec.cx (a n') - Spec.cx (g m)| ≤ 600000 := by
      have h0 := abs_le.1 (ha n' 0); have h2 := abs_le.1 (ha n' 2); have k0 := abs_le.1 (hg m 0); have k2 := abs_le.1 (hg m 2)
      unfold Spec.cx; rw [abs_le]; constructor <;> linarith [h0.1, h0.2, h2.1, h2.2, k0.1, k0.2, k2.1, k2.2]
    have cya : |Spec.cy (a n') - Spec.cy (g m)| ≤ 600000 := by
      have h0 := abs_le.1 (ha n' 1); have h2 := abs_le.1 (ha n' 3); have k0 := abs_le.1 (hg m 1); have k2 := abs_le.1 (hg m 3)
      unfold Spec.cy; rw [abs_le]; constructor <;> linarith [h0.1, h0.2, h2.1, h2.2, k0.1, k0.2, k2.1, k2.2]
    have gx : Spec.cx (g m) ≤ 300000 := by
      have k0 := abs_le.1 (hg m 0); have k2 := abs_le.1 (hg m 2); unfold Spec.cx; linarith [k0.2, k2.2]
    have gy : Spec.cy (g m) ≤ 300000 := by
      have k0 := abs_le.1 (hg m 1); have k2 := abs_le.1 (hg m 3); unfold Spec.cy; linarith [k0.2, k2.2]
    have c1 : Spec.cx (fun _ => (1000000 : ℝ)) = 1000000 := by unfold Spec.cx; norm_num
    have c2 : Spec.cy (fun _ => (1000000 : ℝ)) = 1000000 := by unfold Spec.cy; norm_num
    unfold Spec.d2
    rw [c1, c2]
    have q1 := abs_le.1 cxa
    have q2 := abs_le.1 cya
    nlinarith [q1.1, q1.2, q2.1, q2.2]
  have ein (i : Fin 10) : padE e (m.castLE (by norm_num : 100 ≤ 104)) i = (e m i).castLE (by norm_num) := padE_in e m i
  constructor
  · intro i j hij
    rw [ein, ein, padA_in, padA_in, padG_in]
    exact h.lt i j hij
  · intro n
    by_cases hn : n.val < 20000
    · rcases h.out ⟨n.val, hn⟩ with ⟨i, hi⟩ | hd
      · left; refine ⟨i, ?_⟩; rw [ein, ← hi]; rfl
      · right
        rw [ein, padA_in, padG_in, show padA a n = a ⟨n.val, hn⟩ from funext fun s => dif_pos hn]
        exact hd
    · right
      rw [ein, padA_in, padG_in]
      exact far n (by omega) _
end

end Cert.KernelIdeal.Kern

end
-- ==== Proof.Kernel.Operands.lean ====
/- The operands of the kernel's call, entry by entry, when the arguments are real numbers. -/
module

public import proofs.«01_k».proof.Proof.Kernel.Host
public import proofs.«01_k».proof.Proof.Kernel.Launch
public import proofs.«01_k».proof.Proof.Kernel.Total
public import Idealize.ShloMosaic.Lib.Routing.OpsOne
public import Idealize.ShloMosaic.Lib.Routing.OpsSet
public import Idealize.ShloMosaic.Lib.Pointwise.IndexBridge

@[expose] public section

set_option maxRecDepth 16384
noncomputable section

namespace Cert.KernelIdeal.Kern

open Cert.Chunks Cert.KernelIdeal Cert.KernelIdeal.Gen Idealize.ShloMosaic Idealize.ShloMosaic.TcCoe Idealize.ShloMosaic.Tactic

/-- A matrix padded below and to the right, inside the matrix. -/
theorem pad_in {α : Type} {R C R' C' : ℕ} (hi : Fin 2 → ℕ) (x : (⟨2, ![R, C]⟩ : Shape).Idx → α) (v : (⟨0, ![]⟩ : Shape).Idx → α)
    (h : (⟨2, ![R, C]⟩ : Shape).Pads ![0, 0] hi ![0, 0] ⟨2, ![R', C']⟩) (hv : 0 < (⟨0, ![]⟩ : Shape).numel) (i : Fin R') (j : Fin C') (hi' : i.val < R) (hj : j.val < C) :
    pad ⟨2, ![R', C']⟩ ![0, 0] hi ![0, 0] x v h hv (ix2 i j) = x (ix2 ⟨i.val, hi'⟩ ⟨j.val, hj⟩) := by
  unfold pad
  rw [dif_pos (by intro a; fin_cases a <;> (refine ⟨Nat.zero_le _, Nat.mod_one _, ?_⟩) <;> [exact lt_of_eq_of_lt (Nat.div_one _) hi'; exact lt_of_eq_of_lt (Nat.div_one _) hj])]
  congr 1
  funext a
  fin_cases a <;> exact Fin.ext (Nat.div_one _)

/-- A matrix padded to the right, in the padding. -/
theorem pad_out {α : Type} {R C R' C' : ℕ} (hi : Fin 2 → ℕ) (x : (⟨2, ![R, C]⟩ : Shape).Idx → α) (v : (⟨0, ![]⟩ : Shape).Idx → α)
    (h : (⟨2, ![R, C]⟩ : Shape).Pads ![0, 0] hi ![0, 0] ⟨2, ![R', C']⟩) (hv : 0 < (⟨0, ![]⟩ : Shape).numel) (i : Fin R') (j : Fin C') (hj : C ≤ j.val) :
    pad ⟨2, ![R', C']⟩ ![0, 0] hi ![0, 0] x v h hv (ix2 i j) = v ix0 := by
  unfold pad
  rw [dif_neg (by
    intro hh
    have h1 : j.val / 1 < C := (hh 1).2.2
    rw [Nat.div_one] at h1
    omega)]
  exact congrArg v (funext fun a => a.elim0)

theorem start_at0 (r c : BitVec 32) : start r c (ix1 (0 : Fin 2)) = r := by
  unfold start; pointwise
theorem start_at1 (r c : BitVec 32) : start r c (ix1 (1 : Fin 2)) = c := by
  unfold start; pointwise

/-- Update `(k, l)` of the boxes lands at its own row and column. -/
theorem lands_box (k : S100x4.Idx) (r : Fin 104) (q : Fin 128) :
    scatter_S104x128_S2_S100x4_01_n_01_0.resultIdx? k (start 0#32 0#32) = some (ix2 r q) ↔ (k 0).val = r.val ∧ (k 1).val = q.val := by
  have w0 : scatter_S104x128_S2_S100x4_01_n_01_0.window k 0 = (k 0).val := rfl
  have w1 : scatter_S104x128_S2_S100x4_01_n_01_0.window k 1 = (k 1).val := rfl
  rw [ix2_eq_valueIdx, Routing.resultIdx?_ix2, Routing.start_pair _ rfl rfl, Routing.start_pair _ rfl rfl, ← ix1_eq_valueIdx, ← ix1_eq_valueIdx, start_at0, start_at1, w0, w1]
  have : (0#32 : BitVec 32).toInt = 0 := by decide
  rw [this]; omega

/-- Update `k` of the labels lands in row `k` of column 4. -/
theorem lands_lab (k : S100.Idx) (r : Fin 104) (q : Fin 128) :
    scatter_S104x128_S2_S100_0_1_01_0.resultIdx? k (start 0#32 4#32) = some (ix2 r q) ↔ (k 0).val = r.val ∧ q.val = 4 := by
  have w0 : scatter_S104x128_S2_S100_0_1_01_0.window k 0 = (k 0).val := rfl
  have w1 : scatter_S104x128_S2_S100_0_1_01_0.window k 1 = 0 := rfl
  rw [ix2_eq_valueIdx, Routing.resultIdx?_ix2, Routing.start_pair _ rfl rfl, Routing.start_pair _ rfl rfl, ← ix1_eq_valueIdx, ← ix1_eq_valueIdx, start_at0, start_at1, w0, w1]
  have : (0#32 : BitVec 32).toInt = 0 := by decide
  have h4 : (4#32 : BitVec 32).toInt = 4 := by decide
  rw [this, h4]; omega

section
variable (t : Vec Ideal S104x128 .f32) (u : Vec Ideal S100x4 .f32) (w : Vec Ideal S100 .f32)

theorem set_box (r : Fin 104) (q : Fin 4) (hr : r.val < 100) :
    Host.scatter scatter_S104x128_S2_S100x4_01_n_01_0 (fun _ b => b) t (start 0#32 0#32) u (ix2 r (q.castLE (by norm_num))) = u (ix2 ⟨r.val, hr⟩ q) := by
  refine Routing.scatter_set_hit _ t _ u _ _ (fun k hk => ?_) (ix2 ⟨r.val, hr⟩ q) ((lands_box _ _ _).2 ⟨rfl, rfl⟩)
  obtain ⟨h0, h1⟩ := (lands_box _ _ _).1 hk
  refine congrArg u (funext fun a => ?_)
  fin_cases a <;> exact Fin.ext ‹_›

theorem set_box_miss (r : Fin 104) (q : Fin 128) (h : 100 ≤ r.val ∨ 4 ≤ q.val) :
    Host.scatter scatter_S104x128_S2_S100x4_01_n_01_0 (fun _ b => b) t (start 0#32 0#32) u (ix2 r q) = t (ix2 r q) := by
  refine Routing.scatter_set_miss _ t _ u _ fun k hk => ?_
  obtain ⟨h0, h1⟩ := (lands_box _ _ _).1 hk
  have k0 : (k 0).val < 100 := (k 0).isLt
  have k1 : (k 1).val < 4 := (k 1).isLt
  omega

theorem set_lab (r : Fin 104) (hr : r.val < 100) :
    Host.scatter scatter_S104x128_S2_S100_0_1_01_0 (fun _ b => b) t (start 0#32 4#32) w (ix2 r 4) = w (ix1 ⟨r.val, hr⟩) := by
  refine Routing.scatter_set_hit _ t _ w _ _ (fun k hk => ?_) (ix1 ⟨r.val, hr⟩) ((lands_lab _ _ _).2 ⟨rfl, rfl⟩)
  obtain ⟨h0, h1⟩ := (lands_lab _ _ _).1 hk
  refine congrArg w (funext fun a => ?_)
  fin_cases a; exact Fin.ext h0

theorem set_lab_miss (r : Fin 104) (q : Fin 128) (h : 100 ≤ r.val ∨ q.val ≠ 4) :
    Host.scatter scatter_S104x128_S2_S100_0_1_01_0 (fun _ b => b) t (start 0#32 4#32) w (ix2 r q) = t (ix2 r q) := by
  refine Routing.scatter_set_miss _ t _ w _ fun k hk => ?_
  obtain ⟨h0, h1⟩ := (lands_lab _ _ _).1 hk
  have k0 : (k 0).val < 100 := (k 0).isLt
  omega
end

/-- The arguments are real numbers. -/
structure RealArgs (a0 : Vec Ideal S20000x80 .f32) (a1 : Vec Ideal S20000x4x16 .f32) (a2 : Vec Ideal S20000x4 .f32) (a3 : Vec Ideal S100x4 .f32) (a4 : IVec S100 32)
    (p : Fin 20000 → Fin 80 → ℝ) (x : Fin 20000 → Fin 4 → Fin 16 → ℝ) (a : Fin 20000 → Fin 4 → ℝ) (g : Fin 100 → Fin 4 → ℝ) (lab : Fin 100 → BitVec 32) : Prop where
  cls : ∀ n c, a0 (ix2 n c) = (p n c : EReal)
  reg : ∀ n s b, a1 (ix3 n s b) = (x n s b : EReal)
  anc : ∀ n s, a2 (ix2 n s) = (a n s : EReal)
  box : ∀ m s, a3 (ix2 m s) = (g m s : EReal)
  lab : ∀ m, a4 (ix1 m) = lab m

section
variable (m : (ℓ : Loc nD τ sig) → Buf (Elt Ideal) ℓ) (c : Dev nD)
variable (p : Fin 20000 → Fin 80 → ℝ) (x : Fin 20000 → Fin 4 → Fin 16 → ℝ) (a : Fin 20000 → Fin 4 → ℝ) (g : Fin 100 → Fin 4 → ℝ) (lab : Fin 100 → BitVec 32)
  (e : Fin 100 → Fin 10 → Fin 20000)

theorem bodyIn
    (h : RealArgs (m ((c : Thread nD τ).loc main_arg0)) (m ((c : Thread nD τ).loc main_arg1)) (m ((c : Thread nD τ).loc main_arg2))
      (m ((c : Thread nD τ).loc main_arg3)) (m ((c : Thread nD τ).loc main_arg4)) p x a g lab)
    (ha : ∀ n s, |a n s| ≤ 300000) (hg : ∀ m s, |g m s| ≤ 300000) (he : ∀ m, Nearest (fun n => Spec.d2 (a n) (g m)) (e m)) :
    BodyIn (V m c main_v1) (V m c main_v16) (V m c main_v3) (V m c main_v6) (padA a) (padG g) (padL lab) (padP p) (padX x) (padE e) where
  anc s n := by
    rw [V_anchors]
    by_cases hn : n.val < 20000
    · rw [pad_in _ _ _ _ _ _ _ (show (s.castLE (by norm_num : 4 ≤ 8)).val < 4 from s.isLt) hn]
      refine Eq.trans ?_ ((h.anc ⟨n.val, hn⟩ s).trans (congrArg Real.toEReal (show _ = padA a n s by unfold padA; rw [dif_pos hn])))
      pointwise
      rfl
    · rw [pad_out _ _ _ _ _ _ _ (by omega)]
      exact Lift.million.trans (congrArg Real.toEReal (show _ = padA a n s by unfold padA; rw [dif_neg hn]))
  box r s := by
    rw [V_table, set_lab_miss _ _ _ _ (Or.inr (by show s.val ≠ 4; omega))]
    by_cases hr : r.val < 100
    · rw [set_box _ _ _ _ hr]
      exact (h.box ⟨r.val, hr⟩ s).trans (congrArg Real.toEReal (show _ = padG g r s by unfold padG; rw [dif_pos hr]))
    · rw [set_box_miss _ _ _ _ (Or.inl (by omega))]
      unfold padG; rw [dif_neg hr]
      pointwise
      rfl
  lab r := by
    rw [V_table]
    by_cases hr : r.val < 100
    · rw [set_lab _ _ _ hr]
      unfold padL; rw [dif_pos hr, ← h.lab]; rfl
    · rw [set_lab_miss _ _ _ _ (Or.inl (by omega)), set_box_miss _ _ _ _ (Or.inl (by omega))]
      unfold padL; rw [dif_neg hr, show (0#32 : BitVec 32).toInt = 0 by decide]
      pointwise
      norm_num
  cls cc n hn := by
    rw [V_logits, pad_in _ _ _ _ _ _ _ cc.isLt hn]
    refine Eq.trans ?_ ((h.cls ⟨n.val, hn⟩ cc).trans (congrArg Real.toEReal (show _ = padP p n cc by unfold padP; rw [dif_pos hn])))
    pointwise
  reg s b n := by
    rw [V_regs]
    by_cases hn : n.val < 20000
    · rw [pad_in _ _ _ _ _ _ _ (row s b).isLt hn]
      refine Eq.trans ?_ ((h.reg ⟨n.val, hn⟩ s b).trans (congrArg Real.toEReal (show _ = padX x n s b by unfold padX; rw [dif_pos hn])))
      pointwise
      have e1 : (row s b).val / 16 = s.val := by show (16 * s.val + b.val) / 16 = s.val; omega
      have e2 : (row s b).val % 16 = b.val := by show (16 * s.val + b.val) % 16 = b.val; omega
      exact congrArg₂ (fun i j => m (c.tc.loc main_arg1) (ix3 ⟨n.val, hn⟩ i j)) (Fin.ext e1) (Fin.ext e2)
    · rw [pad_out _ _ _ _ _ _ _ (by omega)]
      unfold padX; rw [dif_neg hn]
      pointwise
      show (((0#32 : BitVec 32).toInt : ℝ) : EReal) = _
      rw [show (0#32 : BitVec 32).toInt = 0 by decide]
      norm_num
  near r hr := by
    have := near_pad a g e ha hg ⟨r.val, hr⟩ (he _)
    exact this
  pad n hn r hr := by
    intro hp
    have h2 := hp.2.1
    have e0 : padA a n = fun _ => 1000000 := funext fun s => dif_neg (by omega)
    have e1 : padG g r 2 = g ⟨r.val, hr⟩ 2 := dif_pos hr
    rw [e0, e1] at h2
    have := (abs_le.1 (hg ⟨r.val, hr⟩ 2)).2
    unfold Spec.cx at h2
    linarith
end

end Cert.KernelIdeal.Kern
end
-- ==== Proof.Math.Take.lean ====
/- A table read along its last axis at one place per entry, and the wrapped and checked places that such a read is given. -/
module

public import Idealize.ShloMosaic.Lib.Pointwise
public import proofs.«01_k».proof.Proof.Math.Words

@[expose] public section

noncomputable section

namespace Cert.Take

open Idealize.ShloMosaic

/-- Read `[R, C]` along its rows at `[R, K, 1]` places. -/
def dims2 (R C K : ℕ) (wf : GatherDims.WF ⟨2, ![R, C]⟩ ⟨3, ![R, K, 1]⟩ ⟨2, ![R, K]⟩ [] [1] [0] [1] [0] 2 ![1, 1]) :
    GatherDims ⟨2, ![R, C]⟩ ⟨3, ![R, K, 1]⟩ ⟨2, ![R, K]⟩ where
  offsetDims := []
  collapsedSliceDims := [1]
  operandBatchingDims := [0]
  startIndicesBatchingDims := [0]
  startIndexMap := [1]
  indexVectorDim := 2
  sliceSizes := ![1, 1]
  wf := wf

theorem along2 {α : Type} {R C K : ℕ} (wf) (x : (⟨2, ![R, C]⟩ : Shape).Idx → α) (idx : IVec ⟨3, ![R, K, 1]⟩ 32)
    (m : Fin R) (j : Fin K) (b : Fin C) (hb : idx (ix3 m j (0 : Fin 1)) = BitVec.ofNat 32 b.val) (hC : b.val < 2147483648) :
    Host.gather (dims2 R C K wf) x idx (ix2 m j) = x (ix2 m b) := by
  refine congrArg x (funext fun a => Fin.ext ?_)
  have hbl := b.isLt
  match a with
  | ⟨0, _⟩ => show 0 + m.val + 0 = m.val; omega
  | ⟨1, _⟩ =>
    have e : (dims2 R C K wf).siIdx (ix2 m j) ⟨0, Nat.one_pos⟩ = ix3 m j (0 : Fin 1) := by
      funext c; fin_cases c <;> rfl
    show min (idx ((dims2 R C K wf).siIdx (ix2 m j) ⟨0, Nat.one_pos⟩)).toInt.toNat (C - 1) + 0 + 0 = b.val
    rw [e, hb, Words.toInt_ofNat hC]
    omega

/-- Read `[R, S, C]` along its last axis at `[R, S, 1, 1]` places. -/
def dims3 (R S C : ℕ) (wf : GatherDims.WF ⟨3, ![R, S, C]⟩ ⟨4, ![R, S, 1, 1]⟩ ⟨3, ![R, S, 1]⟩ [] [2] [0, 1] [2] [0, 1] 3 ![1, 1, 1]) :
    GatherDims ⟨3, ![R, S, C]⟩ ⟨4, ![R, S, 1, 1]⟩ ⟨3, ![R, S, 1]⟩ where
  offsetDims := []
  collapsedSliceDims := [2]
  operandBatchingDims := [0, 1]
  startIndicesBatchingDims := [0, 1]
  startIndexMap := [2]
  indexVectorDim := 3
  sliceSizes := ![1, 1, 1]
  wf := wf

theorem along3 {α : Type} {R S C : ℕ} (wf) (x : (⟨3, ![R, S, C]⟩ : Shape).Idx → α) (idx : IVec ⟨4, ![R, S, 1, 1]⟩ 32)
    (m : Fin R) (j : Fin S) (b : Fin C) (hb : idx (ix4 m j (0 : Fin 1) (0 : Fin 1)) = BitVec.ofNat 32 b.val) (hC : b.val < 2147483648) :
    Host.gather (dims3 R S C wf) x idx (ix3 m j (0 : Fin 1)) = x (ix3 m j b) := by
  refine congrArg x (funext fun a => Fin.ext ?_)
  have hbl := b.isLt
  match a with
  | ⟨0, _⟩ => show 0 + m.val + 0 = m.val; omega
  | ⟨1, _⟩ => show 0 + j.val + 0 = j.val; omega
  | ⟨2, _⟩ =>
    have e : (dims3 R S C wf).siIdx (ix3 m j (0 : Fin 1)) ⟨0, Nat.one_pos⟩ = ix4 m j (0 : Fin 1) (0 : Fin 1) := by
      funext c; fin_cases c <;> rfl
    show min (idx ((dims3 R S C wf).siIdx (ix3 m j (0 : Fin 1)) ⟨0, Nat.one_pos⟩)).toInt.toNat (C - 1) + 0 + 0 = b.val
    rw [e, hb, Words.toInt_ofNat hC]
    omega

/-- A place that is not negative is not wrapped. -/
theorem wrap (b k : ℕ) (hb : b < 2147483648) :
    Scalar.select (IntOp.cmpi .slt (BitVec.ofNat 32 b) 0#32) (BitVec.ofNat 32 b + BitVec.ofNat 32 k) (BitVec.ofNat 32 b) = BitVec.ofNat 32 b := by
  show Scalar.select (BitVec.ofBool ((BitVec.ofNat 32 b).slt 0#32)) _ _ = _
  rw [Words.sel_ofBool, if_neg]
  rw [BitVec.slt_iff_toInt_lt, Words.toInt_ofNat hb]
  simp

/-- A place inside the axis passes its check. -/
theorem inside (b k : ℕ) (hk : k < 2147483648) (hb : b ≤ k) :
    IntOp.andi (IntOp.cmpi .sge (BitVec.ofNat 32 b) 0#32) (IntOp.cmpi .sle (BitVec.ofNat 32 b) (BitVec.ofNat 32 k)) = 1#1 := by
  show IntOp.andi (BitVec.ofBool ((0#32 : BitVec 32).sle (BitVec.ofNat 32 b))) (BitVec.ofBool ((BitVec.ofNat 32 b).sle (BitVec.ofNat 32 k))) = 1#1
  have h1 : (0#32 : BitVec 32).sle (BitVec.ofNat 32 b) = true := by
    rw [BitVec.sle_iff_toInt_le, Words.toInt_ofNat (n := b) (by omega)]; exact Int.natCast_nonneg b
  have h2 : (BitVec.ofNat 32 b).sle (BitVec.ofNat 32 k) = true := by
    rw [BitVec.sle_iff_toInt_le, Words.toInt_ofNat (by omega), Words.toInt_ofNat (by omega)]; omega
  rw [h1, h2]; rfl

/-- A check over one place is that place's. -/
theorem fold_one (f : Fin 1 → BitVec 1) (hf : f 0 = 1#1) : Finset.fold IntOp.andi (1#1) f Finset.univ = 1#1 := by
  rw [Finset.univ_unique, Finset.fold_singleton]
  show IntOp.andi (f 0) 1#1 = 1#1
  rw [hf]; rfl

/-- A read whose places all pass their check. -/
theorem checked {α : Type} (f : Fin 1 → BitVec 32) (b k : ℕ) (hk : k < 2147483648) (hb : b ≤ k) (hf : f 0 = BitVec.ofNat 32 b) (x y : α) :
    Scalar.select (Finset.fold IntOp.andi (1#1) (fun i => IntOp.andi (IntOp.cmpi .sge (f i) 0#32) (IntOp.cmpi .sle (f i) (BitVec.ofNat 32 k))) Finset.univ) x y = x := by
  rw [fold_one _ (by rw [hf]; exact inside b k hk hb)]
  rfl

/-- A place inside the axis is not moved by clipping. -/
theorem clip (b k : ℕ) (hk : k < 2147483648) (hb : b ≤ k) :
    IntOp.minsi (BitVec.ofNat 32 k) (IntOp.maxsi 0#32 (BitVec.ofNat 32 b)) = BitVec.ofNat 32 b := by
  apply BitVec.eq_of_toInt_eq
  rw [SortNet.toInt_minsi, SortNet.toInt_maxsi, Words.toInt_ofNat hk, Words.toInt_ofNat (n := b) (by omega)]
  show min (k : ℤ) (max 0 (b : ℤ)) = b
  omega

/-- A match clipped to the boxes' indices is the box read for it. -/
theorem clip_word {K : ℕ} (hK : 0 < K) (k : ℕ) (hk : k < 2147483647) (hKk : K ≤ k + 1) (o : Option (Fin K)) :
    IntOp.minsi (BitVec.ofNat 32 k) (IntOp.maxsi 0#32 (Words.word o)) = BitVec.ofNat 32 (Words.pick hK o).val := by
  have hb := (Words.pick hK o).isLt
  have e : IntOp.maxsi 0#32 (Words.word o) = IntOp.maxsi (Words.word o) 0#32 :=
    BitVec.eq_of_toInt_eq (by rw [SortNet.toInt_maxsi, SortNet.toInt_maxsi, max_comm])
  rw [e, Words.max_word hK (by omega)]
  apply BitVec.eq_of_toInt_eq
  rw [SortNet.toInt_minsi, Words.toInt_ofNat (n := k) (by omega), Words.toInt_ofNat (by omega)]
  omega

/-- A sum of truth values is the word of their number. -/
theorem fold_count {ι : Type} (b : ι → Bool) (s : Finset ι) :
    Finset.fold IntOp.addi (0#32) (fun k => BitVec.setWidth 32 (BitVec.ofBool (b k))) s = BitVec.ofNat 32 (∑ k ∈ s, if b k = true then 1 else 0) := by
  classical
  induction s using Finset.induction_on with
  | empty => rfl
  | insert i s hi ih =>
    rw [Finset.fold_insert hi, Finset.sum_insert hi, ih, BitVec.ofNat_add]
    show _ + _ = _ + _
    congr 1
    cases b i <;> rfl

/-- A small word as a float. -/
theorem sitofp_ofNat (n : ℕ) (hn : n < 2147483648) :
    FloatOps.sitofp (F := Ideal) FTy.f32 (BitVec.ofNat 32 n) = ((n : ℝ) : EReal) := by
  show (((BitVec.ofNat 32 n).toInt : ℝ) : EReal) = _
  rw [Words.toInt_ofNat hn]; rfl

theorem uitofp_ofBool (b : Bool) : FloatOps.uitofp (F := Ideal) FTy.f32 (BitVec.ofBool b) = ((if b = true then 1 else 0 : ℝ) : EReal) := by
  show (((BitVec.ofBool b).toNat : ℝ) : EReal) = _
  cases b <;> simp

/-- The number the loss divides by, as it is computed. -/
theorem sitofp_count (n : ℕ) (hn : n < 2147483648) :
    FloatOps.sitofp (F := Ideal) FTy.f32 (IntOp.maxsi (BitVec.ofNat 32 n) 1#32) = ((max (n : ℝ) 1 : ℝ) : EReal) := by
  have e : IntOp.maxsi (BitVec.ofNat 32 n) 1#32 = BitVec.ofNat 32 (max n 1) := by
    apply BitVec.eq_of_toInt_eq
    rw [SortNet.toInt_maxsi, Words.toInt_ofNat hn, Words.toInt_ofNat (n := max n 1) (by omega)]
    show max (n : ℤ) 1 = ((max n 1 : ℕ) : ℤ)
    omega
  rw [e, sitofp_ofNat _ (by omega)]
  push_cast
  rfl

end Cert.Take
end
-- ==== Proof.Reference.Overlap.lean ====
/- The reference's overlaps of anchors and boxes, and its negated centre distances. -/
module

public import proofs.«01_k».proof.Proof.Gen.ReferenceIdeal.Run
public import proofs.«01_k».proof.Proof.Math.Order
public import proofs.«01_k».proof.Proof.Math.Take
public import Idealize.ShloMosaic.Lib.Tactic.CleanTypes
public import Idealize.ShloMosaic.Lib.Pointwise.IndexBridge

@[expose] public section

set_option maxRecDepth 16384
noncomputable section

namespace Cert.ReferenceIdeal.Ref

open Idealize.ShloMosaic Idealize.ShloMosaic.TcCoe Cert.ReferenceIdeal Cert.ReferenceIdeal.Value

/-- The arguments hold real numbers and labels. -/
structure Args (V : Valuation τ sig (Elt Ideal)) (p : Fin 20000 → Fin 80 → ℝ) (x : Fin 20000 → Fin 4 → Fin 16 → ℝ)
    (a : Fin 20000 → Fin 4 → ℝ) (g : Fin 100 → Fin 4 → ℝ) (lab : Fin 100 → BitVec 32) : Prop where
  cls : ∀ n c, (V (Proc.devRef .tc main_arg0) : FVec Ideal S20000x80 .f32) (ix2 n c) = (p n c : EReal)
  reg : ∀ n s b, (V (Proc.devRef .tc main_arg1) : FVec Ideal S20000x4x16 .f32) (ix3 n s b) = (x n s b : EReal)
  anc : ∀ n s, (V (Proc.devRef .tc main_arg2) : FVec Ideal S20000x4 .f32) (ix2 n s) = (a n s : EReal)
  box : ∀ n s, (V (Proc.devRef .tc main_arg3) : FVec Ideal S100x4 .f32) (ix2 n s) = (g n s : EReal)
  lab : ∀ m, (V (Proc.devRef .tc main_arg4) : IVec S100 32) (ix1 m) = lab m

variable {V : Valuation τ sig (Elt Ideal)} {p : Fin 20000 → Fin 80 → ℝ} {x : Fin 20000 → Fin 4 → Fin 16 → ℝ}
  {a : Fin 20000 → Fin 4 → ℝ} {g : Fin 100 → Fin 4 → ℝ} {lab : Fin 100 → BitVec 32} (h : Args V p x a g lab)
include h

/-- Overlaps, anchors by boxes. -/
theorem v51 (n : Fin 20000) (m : Fin 100) :
    (res_main_v51 V : FVec Ideal S20000x100 .f32) (ix2 n m) = ((Spec.iou (a n) (g m) : ℝ) : EReal) := by
  unfold res_main_v51 res_main_v42 res_main_v37
  clean_types
  dsimp only [id]
  pointwise
  simp only [h.anc, h.box, Lift.eps]
  rw [max_comm 0 _, max_comm 0 _]
  exact Lift.iou (a n) (g m)

/-- Anchors' centres. -/
theorem v56 (n : Fin 20000) (s : Fin 2) :
    (res_main_v56 V : FVec Ideal S20000x2 .f32) (ix2 n s) = (((a n ⟨s.val, by omega⟩ + a n ⟨2 + s.val, by omega⟩) / 2 : ℝ) : EReal) := by
  unfold res_main_v56
  clean_types
  pointwise
  simp only [h.anc, Lift.two]
  rw [Lift.add_coe, Lift.div_coe _ _ two_ne_zero]

/-- Negated distances of centres, boxes by anchors. -/
theorem v69 : (res_main_v69 V : FVec Ideal S100x20000 .f32) = TopK.negDist a g := by
  funext i
  obtain ⟨m, n, rfl⟩ : ∃ (m : Fin 100) (n : Fin 20000), i = ix2 m n := ⟨i 0, i 1, by funext b; fin_cases b <;> rfl⟩
  unfold res_main_v69 res_main_v66 res_main_v56
  clean_types
  pointwise
  simp only [h.anc, h.box]
  exact TopK.negDist_of (a n) (g m)

/-- The places of a box's nine nearest anchors. -/
theorem indices (m : Fin 100) (j : Fin 9) :
    (res_main_indices V : IVec S100x9 32) (ix2 m j) = BitVec.ofNat 32 (TopK.near a g m (j.castLE (by norm_num))).val := by
  unfold res_main_indices
  clean_types
  refine (congrArg (fun x => (Host.topK S100x9 1 (FloatOps.cmpfTotal .gt) x Gen.sliceFits_S100x20000_S100x9).2 (ix2 m j)) (v69 h)).trans ?_
  exact TopK.places_at (TopK.negDist a g) _ (by norm_num) m j

/-- The same places, wrapped. -/
theorem call2_v5 (m : Fin 100) (j : Fin 9) :
    (res_main_call2_v5 V : IVec S100x9x1 32) (ix3 m j (0 : Fin 1)) = BitVec.ofNat 32 (TopK.near a g m (j.castLE (by norm_num))).val := by
  unfold res_main_call2_v5
  clean_types
  pointwise
  rw [indices h m j]
  exact Take.wrap _ 20000 (by have := (TopK.near a g m (j.castLE (by norm_num))).isLt; omega)

/-- The overlaps of a box with its nine nearest anchors. -/
theorem v71 (m : Fin 100) (j : Fin 9) :
    (res_main_v71 V : FVec Ideal S100x9 .f32) (ix2 m j) = ((Spec.iou (a (TopK.near a g m (j.castLE (by norm_num)))) (g m) : ℝ) : EReal) := by
  have hb := (TopK.near a g m (j.castLE (by norm_num))).isLt
  unfold res_main_v71
  clean_types
  pointwise
  refine (Take.checked (fun i => (res_main_call2_v5 V : IVec S100x9x1 32) (ix3 m j i)) _ 19999 (by omega) (Nat.le_of_lt_succ hb) (call2_v5 h m j) _ _).trans ?_
  refine (Take.along2 _ (transpose S100x20000 [1, 0] (res_main_v51 V : FVec Ideal S20000x100 .f32) Gen.transposes_S20000x100_S100x20000_1_0)
    (res_main_call2_v5 V) m j (TopK.near a g m (j.castLE (by norm_num))) (call2_v5 h m j) (by omega)).trans ?_
  pointwise
  exact v51 h _ m

end Cert.ReferenceIdeal.Ref
end
-- ==== Proof.Reference.Matching.lean ====
/- The reference's thresholds and its matching of anchors to boxes. -/
module

public import proofs.«01_k».proof.Proof.Reference.Overlap

@[expose] public section

set_option maxRecDepth 16384
noncomputable section

namespace Cert.ReferenceIdeal.Ref

open Idealize.ShloMosaic Idealize.ShloMosaic.TcCoe Cert.ReferenceIdeal Cert.ReferenceIdeal.Value

/-- A box's threshold. -/
def th (a : Fin 20000 → Fin 4 → ℝ) (g : Fin 100 → Fin 4 → ℝ) (m : Fin 100) : ℝ :=
  Spec.thr fun j : Fin 9 => Spec.iou (a (TopK.near a g m (j.castLE (by norm_num)))) (g m)

/-- Eight, as it is computed. -/
theorem eight : Ideal.ofBits FTy.f32 0x41100000#32 - FloatOps.sitofp (F := Ideal) FTy.f32 1#32 = ((8 : ℝ) : EReal) := by
  have e : FloatOps.sitofp (F := Ideal) FTy.f32 1#32 = ((1 : ℝ) : EReal) := by
    refine (Take.sitofp_ofNat 1 (by norm_num)).trans ?_
    norm_num
  rw [e, Lift.nine, Lift.sub_coe]
  norm_num

/-- A threshold as the reference computes it from nine overlaps and their deviations. -/
theorem threshold (f : Fin 9 → ℝ) (v d : Fin 9 → EReal) (hv : ∀ j, v j = (f j : EReal)) (hd : ∀ j, d j = ((f j - Spec.mean f : ℝ) : EReal)) :
    Ideal.div (∑ j, v j) (Ideal.ofBits FTy.f32 0x41100000#32)
      + Ideal.sqrt (if 0 < Ideal.ofBits FTy.f32 0x41100000#32 - FloatOps.sitofp (F := Ideal) FTy.f32 1#32 then
          Ideal.div (∑ j, d j * d j) (Ideal.ofBits FTy.f32 0x41100000#32 - FloatOps.sitofp (F := Ideal) FTy.f32 1#32)
        else Ideal.ofBits FTy.f32 0x7FC00000#32) = ((Spec.thr f : ℝ) : EReal) := by
  rw [eight, if_pos (by exact_mod_cast (by norm_num : (0 : ℝ) < 8))]
  simp only [hv, hd, Lift.mul_coe, Lift.sum_coe, Lift.nine, Lift.div_coe _ _ (show (9 : ℝ) ≠ 0 by norm_num),
    Lift.div_coe _ _ (show (8 : ℝ) ≠ 0 by norm_num)]
  rw [Lift.sqrt_coe (div_nonneg (Finset.sum_nonneg fun j _ => mul_self_nonneg _) (by norm_num)), Lift.add_coe]
  rfl

/-- The five comparisons that make an anchor a positive, choosing an index or minus one. -/
theorem positive (A B : Fin 4 → ℝ) (t : ℝ) {T I CX CY : EReal} {b : Fin 4 → EReal} (hT : T = (t : EReal)) (hI : I = ((Spec.iou A B : ℝ) : EReal))
    (hX : CX = ((Spec.cx A : ℝ) : EReal)) (hY : CY = ((Spec.cy A : ℝ) : EReal)) (hb : ∀ s, b s = (B s : EReal)) (y z : BitVec 32) :
    (t ≤ Spec.iou A B ∧ Spec.Inside A B → Scalar.select (IntOp.andi (BitVec.ofBool (decide (T ≤ I)))
      (IntOp.andi (IntOp.andi (IntOp.andi (BitVec.ofBool (decide (b 0 ≤ CX))) (BitVec.ofBool (decide (CX ≤ b 2)))) (BitVec.ofBool (decide (b 1 ≤ CY))))
        (BitVec.ofBool (decide (CY ≤ b 3))))) y z = y)
    ∧ (¬ (t ≤ Spec.iou A B ∧ Spec.Inside A B) → Scalar.select (IntOp.andi (BitVec.ofBool (decide (T ≤ I)))
      (IntOp.andi (IntOp.andi (IntOp.andi (BitVec.ofBool (decide (b 0 ≤ CX))) (BitVec.ofBool (decide (CX ≤ b 2)))) (BitVec.ofBool (decide (b 1 ≤ CY))))
        (BitVec.ofBool (decide (CY ≤ b 3))))) y z = z) := by
  rw [hT, hI, hX, hY]
  simp only [hb, Words.andi_ofBool, EReal.coe_le_coe_iff, Words.sel_ofBool, Bool.and_eq_true, decide_eq_true_eq]
  refine ⟨fun h => if_pos ⟨h.1, ⟨⟨h.2.1, h.2.2.1⟩, h.2.2.2.1⟩, h.2.2.2.2⟩, fun h => if_neg fun h' => h ⟨h'.1, h'.2.1.1.1, h'.2.1.1.2, h'.2.1.2, h'.2.2⟩⟩

variable {V : Valuation τ sig (Elt Ideal)} {p : Fin 20000 → Fin 80 → ℝ} {x : Fin 20000 → Fin 4 → Fin 16 → ℝ}
  {a : Fin 20000 → Fin 4 → ℝ} {g : Fin 100 → Fin 4 → ℝ} {lab : Fin 100 → BitVec 32} (h : Args V p x a g lab)
include h

/-- Deviations of the nine overlaps from their mean. -/
theorem dev (m : Fin 100) (j : Fin 9) :
    (res_main_call3_call0_v5 V : FVec Ideal S100x9 .f32) (ix2 m j)
      = ((Spec.iou (a (TopK.near a g m (j.castLE (by norm_num)))) (g m)
          - Spec.mean (fun j : Fin 9 => Spec.iou (a (TopK.near a g m (j.castLE (by norm_num)))) (g m)) : ℝ) : EReal) := by
  unfold res_main_call3_call0_v5
  clean_types
  pointwise
  simp only [v71 h, Lift.sum_coe, Lift.nine, Lift.div_coe _ _ (show (9 : ℝ) ≠ 0 by norm_num), Lift.sub_coe]
  rfl

/-- Each anchor's match: the largest index of the boxes it is a positive of. -/
theorem v119 (n : Fin 20000) :
    (res_main_v119 V : IVec S20000 32) (ix1 n) = Words.word (Spec.matched a g (th a g) n) := by
  unfold res_main_v119 res_main_v81 res_main_v83 res_main_call3_call0_v8
  clean_types
  dsimp only [id]
  pointwise
  have e := fun m : Fin 100 => positive (a n) (g m) (th a g m) (b := fun s => (V (Proc.devRef .tc main_arg3) : FVec Ideal S100x4 .f32) (ix2 m s))
    (threshold _ _ _ (v71 h m) (dev h m)) (v51 h n m) (v56 h n 0) (v56 h n 1) (h.box m) (BitVec.ofNat 32 m.val) 4294967295#32
  exact Words.fold_best (by norm_num) (by norm_num) (Spec.Pos a g (th a g) n) _ (fun m hm => (e m).1 hm) (fun m hm => (e m).2 hm)

/-- The box read for each anchor. -/
theorem v127 (n : Fin 20000) :
    (res_main_v127 V : IVec S20000 32) (ix1 n) = BitVec.ofNat 32 (Words.pick (by norm_num) (Spec.matched a g (th a g) n)).val := by
  unfold res_main_v127
  clean_types
  dsimp only [id]
  pointwise
  rw [v119 h n]
  exact Take.clip_word (by norm_num) 99 (by norm_num) (by norm_num) _

/-- Whether an anchor is matched. -/
theorem v129 (n : Fin 20000) :
    (res_main_v129 V : IVec S20000 1) (ix1 n) = BitVec.ofBool (Spec.matched a g (th a g) n).isSome := by
  unfold res_main_v129
  clean_types
  pointwise
  rw [v119 h n]
  exact Words.sge_word (by norm_num) _

/-- The number of matched anchors, at least one. -/
theorem v132 : FloatOps.sitofp (F := Ideal) .f32 ((res_main_v132 V : IVec S_ 32) ix0) = ((max (Spec.count a g (th a g)) 1 : ℝ) : EReal) := by
  unfold res_main_v132
  clean_types
  pointwise
  simp only [v129 h]
  rw [Take.fold_count (fun k : Fin 20000 => (Spec.matched a g (th a g) k).isSome), Take.sitofp_count]
  · have e : ((∑ k : Fin 20000, if (Spec.matched a g (th a g) k).isSome = true then 1 else 0 : ℕ) : ℝ) = Spec.count a g (th a g) := by
      unfold Spec.count
      push_cast
      refine Finset.sum_congr rfl fun n _ => ?_
      cases Spec.matched a g (th a g) n <;> simp
    rw [e]
  · have : (∑ k : Fin 20000, if (Spec.matched a g (th a g) k).isSome = true then 1 else 0 : ℕ) ≤ ∑ k : Fin 20000, 1 :=
      Finset.sum_le_sum fun k _ => by split <;> omega
    refine lt_of_le_of_lt this ?_
    simp

end Cert.ReferenceIdeal.Ref
end
-- ==== Proof.Reference.Targets.lean ====
/- The reference's regression targets and the logarithms of its softmax, read at each side's bins. -/
module

public import proofs.«01_k».proof.Proof.Reference.Matching
public import Idealize.ShloMosaic.Lib.Routing.OpsSet

@[expose] public section

set_option maxRecDepth 16384
noncomputable section

namespace Cert.ReferenceIdeal.Ref

open Idealize.ShloMosaic Idealize.ShloMosaic.TcCoe Cert.ReferenceIdeal Cert.ReferenceIdeal.Value

/-- The box read for an anchor. -/
def own (a : Fin 20000 → Fin 4 → ℝ) (g : Fin 100 → Fin 4 → ℝ) (n : Fin 20000) : Fin 100 :=
  Words.pick (by norm_num) (Spec.matched a g (th a g) n)

variable {V : Valuation τ sig (Elt Ideal)} {p : Fin 20000 → Fin 80 → ℝ} {x : Fin 20000 → Fin 4 → Fin 16 → ℝ}
  {a : Fin 20000 → Fin 4 → ℝ} {g : Fin 100 → Fin 4 → ℝ} {lab : Fin 100 → BitVec 32} (h : Args V p x a g lab)
include h

/-- The place of an anchor's box, wrapped. -/
theorem place (n : Fin 20000) :
    (broadcastInDim S20000x1 ![0] Gen.bcast_S20000_S20000x1_0 (select (cmpi .slt (res_main_v127 V : IVec S20000 32) (broadcastInDim S20000 ![] Gen.bcast_S_S20000 (constantI S_ 32 0#32)))
      (addi (res_main_v127 V : IVec S20000 32) (broadcastInDim S20000 ![] Gen.bcast_S_S20000 (constantI S_ 32 100#32))) (res_main_v127 V : IVec S20000 32)) : IVec S20000x1 32) (ix2 n (0 : Fin 1))
      = BitVec.ofNat 32 (own a g n).val := by
  pointwise
  rw [v127 h n]
  exact Take.wrap _ 100 (by have := (own a g n).isLt; unfold own at this; omega)

/-- The box read for each anchor. -/
theorem v169 (n : Fin 20000) (s : Fin 4) :
    (res_main_v169 V : FVec Ideal S20000x4 .f32) (ix2 n s) = ((g (own a g n) s : ℝ) : EReal) := by
  unfold res_main_v169
  clean_types
  have hp := place h n
  rw [ix2_eq_valueIdx] at hp ⊢
  refine (Routing.gather_row _ rfl rfl rfl rfl rfl (V (Proc.devRef .tc main_arg3) : FVec Ideal S100x4 .f32) _ n s (own a g n) hp (by norm_num)).trans ?_
  rw [← ix2_eq_valueIdx]
  exact h.box _ s

/-- The label read for each anchor. -/
theorem label (n : Fin 20000) :
    Host.gather gather_S100_S20000x1_S20000_n_0_n_n_0_1_1 (V (Proc.devRef .tc main_arg4) : IVec S100 32)
      (broadcastInDim S20000x1 ![0] Gen.bcast_S20000_S20000x1_0 (select (cmpi .slt (res_main_v127 V : IVec S20000 32) (broadcastInDim S20000 ![] Gen.bcast_S_S20000 (constantI S_ 32 0#32)))
        (addi (res_main_v127 V : IVec S20000 32) (broadcastInDim S20000 ![] Gen.bcast_S_S20000 (constantI S_ 32 100#32))) (res_main_v127 V : IVec S20000 32)) : IVec S20000x1 32) (ix1 n)
      = lab (own a g n) := by
  have hp := place h n
  rw [ix2_eq_valueIdx] at hp
  rw [ix1_eq_valueIdx]
  refine (Routing.gather_take1 _ rfl rfl rfl rfl (V (Proc.devRef .tc main_arg4) : IVec S100 32) _ n (own a g n) hp (by norm_num)).trans ?_
  rw [← ix1_eq_valueIdx]
  exact h.lab _

/-- The place of an anchor's box among the overlaps, wrapped. -/
theorem call6_v5 (n : Fin 20000) :
    (res_main_call6_v5 V : IVec S20000x1x1 32) (ix3 n (0 : Fin 1) (0 : Fin 1)) = BitVec.ofNat 32 (own a g n).val := by
  unfold res_main_call6_v5 res_main_v123
  clean_types
  dsimp only [id]
  pointwise
  rw [v119 h n, Take.clip_word (by norm_num) 99 (by norm_num) (by norm_num)]
  exact Take.wrap _ 100 (by have := (own a g n).isLt; unfold own at this; omega)

/-- The overlap read for each anchor. -/
theorem overlap (n : Fin 20000) :
    Scalar.select (Finset.fold IntOp.andi (1#1) (fun i : Fin 1 =>
        IntOp.andi (IntOp.cmpi .sge ((res_main_call6_v5 V : IVec S20000x1x1 32) (ix3 n (0 : Fin 1) i)) 0#32)
          (IntOp.cmpi .sle ((res_main_call6_v5 V : IVec S20000x1x1 32) (ix3 n (0 : Fin 1) i)) 99#32)) Finset.univ)
      (Host.gather gather_S20000x100_S20000x1x1_S20000x1_n_1_0_0_1_2_11 (res_main_v51 V : FVec Ideal S20000x100 .f32) (res_main_call6_v5 V : IVec S20000x1x1 32) (ix2 n (0 : Fin 1)))
      (Ideal.ofBits FTy.f32 0x7FC00000#32) = ((Spec.iou (a n) (g (own a g n)) : ℝ) : EReal) := by
  have hb := (own a g n).isLt
  refine (Take.checked (fun i => (res_main_call6_v5 V : IVec S20000x1x1 32) (ix3 n (0 : Fin 1) i)) _ 99 (by norm_num) (Nat.le_of_lt_succ hb) (call6_v5 h n) _ _).trans ?_
  refine (Take.along2 _ (res_main_v51 V : FVec Ideal S20000x100 .f32) (res_main_call6_v5 V) n (0 : Fin 1) (own a g n) (call6_v5 h n) (by omega)).trans ?_
  exact v51 h n _

/-- The targets. -/
theorem v197 (n : Fin 20000) (s : Fin 4) :
    (res_main_v197 V : FVec Ideal S20000x4 .f32) (ix2 n s) = ((Spec.tgt (Spec.side (a n) (g (own a g n)) s) : ℝ) : EReal) := by
  unfold res_main_v197 res_main_v162
  clean_types
  dsimp only [id]
  pointwise
  simp only [h.anc, v169 h, Lift.two, Lift.eight, Lift.hi, Lift.add_coe, Lift.sub_coe, Lift.div_coe _ _ (two_ne_zero (α := ℝ))]
  have e : ∀ t : ℝ, min (Spec.hi : EReal) (max 0 (Ideal.div (t : EReal) ((8 : ℝ) : EReal))) = ((Spec.tgt t : ℝ) : EReal) := fun t => by
    rw [Lift.div_coe _ _ (show (8 : ℝ) ≠ 0 by norm_num), Lift.max_zero_coe, Lift.min_coe]; rfl
  fin_cases s <;> exact e _

/-- The bins. -/
theorem v200 (n : Fin 20000) (s : Fin 4) :
    (res_main_v200 V : IVec S20000x4 32) (ix2 n s) = BitVec.ofNat 32 (Spec.bin (Spec.side (a n) (g (own a g n)) s)) := by
  unfold res_main_v200
  clean_types
  dsimp only [id]
  pointwise
  rw [v197 h n s, Words.floor_coe, Words.fptosi_floor]
  exact Take.clip _ 15 (by norm_num) (by have := Spec.bin_lt (Spec.side (a n) (g (own a g n)) s); omega)

/-- How far each target lies past its bin. -/
theorem v205 (n : Fin 20000) (s : Fin 4) :
    (res_main_v205 V : FVec Ideal S20000x4 .f32) (ix2 n s)
      = ((Spec.tgt (Spec.side (a n) (g (own a g n)) s) - Spec.bin (Spec.side (a n) (g (own a g n)) s) : ℝ) : EReal) := by
  have hb := Spec.bin_lt (Spec.side (a n) (g (own a g n)) s)
  unfold res_main_v205
  clean_types
  pointwise
  rw [v197 h n s, v200 h n s, Take.sitofp_ofNat _ (by omega), Lift.sub_coe]

/-- The left bins' places. -/
theorem call14_v5 (n : Fin 20000) (s : Fin 4) :
    (res_main_call14_v5 V : IVec S20000x4x1x1 32) (ix4 n s (0 : Fin 1) (0 : Fin 1)) = BitVec.ofNat 32 (Spec.bin (Spec.side (a n) (g (own a g n)) s)) := by
  have hb := Spec.bin_lt (Spec.side (a n) (g (own a g n)) s)
  unfold res_main_call14_v5 res_main_v209
  clean_types
  pointwise
  rw [v200 h n s]
  exact Take.wrap _ 16 (by omega)

/-- The right bins' places. -/
theorem call15_v5 (n : Fin 20000) (s : Fin 4) :
    (res_main_call15_v5 V : IVec S20000x4x1x1 32) (ix4 n s (0 : Fin 1) (0 : Fin 1)) = BitVec.ofNat 32 (Spec.bin (Spec.side (a n) (g (own a g n)) s) + 1) := by
  have hb := Spec.bin_lt (Spec.side (a n) (g (own a g n)) s)
  have e : IntOp.addi (BitVec.ofNat 32 (Spec.bin (Spec.side (a n) (g (own a g n)) s))) 1#32 = BitVec.ofNat 32 (Spec.bin (Spec.side (a n) (g (own a g n)) s) + 1) := by
    show BitVec.ofNat 32 (Spec.bin _) + BitVec.ofNat 32 1 = _
    rw [← BitVec.ofNat_add]
  unfold res_main_call15_v5 res_main_v213
  clean_types
  dsimp only [id]
  pointwise
  rw [v200 h n s, e, Take.clip _ 15 (by norm_num) (by omega)]
  exact Take.wrap _ 16 (by omega)

/-- The logarithms of the softmax. -/
theorem v208 (n : Fin 20000) (s : Fin 4) (b : Fin 16) :
    (res_main_v208 V : FVec Ideal S20000x4x16 .f32) (ix3 n s b) = ((x n s b - Real.log (∑ b, Real.exp (x n s b)) : ℝ) : EReal) := by
  unfold res_main_v208 res_main_call13_v5
  clean_types
  pointwise
  obtain ⟨M, hM⟩ := Words.fold_max_coe (by norm_num) (x n s)
  have hpos : 0 < ∑ b, Real.exp (x n s b - M) := Finset.sum_pos (fun b _ => Real.exp_pos _) Finset.univ_nonempty
  simp only [h.reg, Lift.bot, hM, max_bot_left, Lift.sub_coe, Lift.exp_coe, Lift.sum_coe, Lift.log_coe hpos]
  rw [← Words.logsumexp (x n s) M]
  congr 1
  ring

/-- A read of the logarithms at a bin. -/
theorem logp (idx : IVec S20000x4x1x1 32) (n : Fin 20000) (s : Fin 4) (b : ℕ) (hb : b < 16) (hi : idx (ix4 n s (0 : Fin 1) (0 : Fin 1)) = BitVec.ofNat 32 b) :
    Scalar.select (Finset.fold IntOp.andi (1#1) (fun i : Fin 1 =>
        IntOp.andi (IntOp.cmpi .sge (idx (ix4 n s (0 : Fin 1) i)) 0#32) (IntOp.cmpi .sle (idx (ix4 n s (0 : Fin 1) i)) 15#32)) Finset.univ)
      (Host.gather gather_S20000x4x16_S20000x4x1x1_S20000x4x1_n_2_01_01_2_3_111 (res_main_v208 V : FVec Ideal S20000x4x16 .f32) idx (ix3 n s (0 : Fin 1)))
      (Ideal.ofBits FTy.f32 0x7FC00000#32) = ((x n s ⟨b, hb⟩ - Real.log (∑ b, Real.exp (x n s b)) : ℝ) : EReal) := by
  refine (Take.checked (fun i => idx (ix4 n s (0 : Fin 1) i)) b 15 (by norm_num) (Nat.le_of_lt_succ hb) hi _ _).trans ?_
  refine (Take.along3 _ (res_main_v208 V : FVec Ideal S20000x4x16 .f32) idx n s ⟨b, hb⟩ hi (by show b < _; omega)).trans ?_
  exact v208 h n s _

end Cert.ReferenceIdeal.Ref
end
-- ==== Proof.Math.Terms.lean ====
/- The reference's terms of the loss: one logit's cross entropy and one side's focal loss, for matched and unmatched anchors. -/
module

public import proofs.«01_k».proof.Proof.Math.Take

@[expose] public section

noncomputable section

namespace Cert.Terms

open Idealize.ShloMosaic Finset

/-- What a match trains an anchor's class towards, at one class. -/
def pull (o : Option (Fin 100)) (f : Fin 100 → ℝ) (l : Fin 100 → BitVec 32) (q : ℝ) (c : ℕ) : ℝ :=
  o.elim 0 f * o.elim 0 fun m => if BitVec.ofNat 32 c = l m then q else 0

theorem uitofp_eq (u v : BitVec 32) : FloatOps.uitofp (F := Ideal) FTy.f32 (IntOp.cmpi .eq u v) = ((if v = u then 1 else 0 : ℝ) : EReal) := by
  refine (Take.uitofp_ofBool (u == v)).trans ?_
  by_cases h : v = u
  · rw [if_pos h, if_pos (by simp [h])]
  · rw [if_neg h, if_neg (by simpa using fun e => h e.symm)]

/-- One logit's cross entropy as the reference computes it. -/
theorem cls (q : ℝ) (o : Option (Fin 100)) (f : Fin 100 → ℝ) (l : Fin 100 → BitVec 32) (c : ℕ) {P I : EReal} {W L : BitVec 32} {B : BitVec 1}
    (hP : P = (q : EReal)) (hW : W = Words.word o) (hL : L = l (Words.pick (by norm_num) o)) (hI : I = ((f (Words.pick (by norm_num) o) : ℝ) : EReal))
    (hB : B = BitVec.ofBool o.isSome) :
    max P 0 - Scalar.select (IntOp.cmpi .sge W 0#32)
        (P * (FloatOps.uitofp (F := Ideal) FTy.f32 (IntOp.cmpi .eq L (BitVec.ofNat 32 c)) * (I * FloatOps.uitofp (F := Ideal) FTy.f32 B))) 0
      + Ideal.log1p (Ideal.exp (-FloatOps.absf (F := Ideal) (φ := .f32) P)) = ((Spec.base q - pull o f l q c : ℝ) : EReal) := by
  have hpos : 0 < 1 + Real.exp (-|q|) := by positivity
  have hl : Ideal.log1p (Ideal.exp (-FloatOps.absf (F := Ideal) (φ := .f32) P)) = ((Real.log (1 + Real.exp (-|q|)) : ℝ) : EReal) := by
    rw [hP]
    show Ideal.log (1 + Ideal.exp (-(max (q : EReal) (-(q : EReal))))) = _
    rw [Lift.neg_coe, Lift.max_coe, Lift.neg_coe, Lift.exp_coe, Lift.one_coe, Lift.add_coe]
    exact Lift.log_coe hpos
  rw [hl, hW, Words.sge_word (by norm_num), uitofp_eq, hB, Take.uitofp_ofBool, Words.sel_ofBool, hP, Lift.max_coe_zero]
  cases o with
  | none =>
    rw [if_neg (by simp), Lift.zero_coe, Lift.sub_coe, Lift.add_coe]
    unfold Spec.base pull
    simp
  | some m =>
    have hL' : L = l m := hL
    have hI' : I = ((f m : ℝ) : EReal) := hI
    rw [if_pos (Option.isSome_some), if_pos (Option.isSome_some), hI', hL', Lift.mul_coe, Lift.mul_coe, Lift.mul_coe, Lift.sub_coe, Lift.add_coe]
    refine congrArg Real.toEReal ?_
    show max q 0 - q * ((if BitVec.ofNat 32 c = l m then 1 else 0) * (f m * 1)) + Real.log (1 + Real.exp (-|q|))
      = max q 0 + Real.log (1 + Real.exp (-|q|)) - f m * (if BitVec.ofNat 32 c = l m then q else 0)
    split <;> ring

/-- One side's focal loss as the reference computes it. -/
theorem reg (y : Fin 16 → ℝ) (t : ℝ) (b : Bool) {S1 S2 D : EReal} {B : BitVec 1}
    (h1 : S1 = ((y ⟨Spec.bin t, by have := Spec.bin_lt t; omega⟩ - Real.log (∑ b, Real.exp (y b)) : ℝ) : EReal))
    (h2 : S2 = ((y ⟨Spec.bin t + 1, by have := Spec.bin_lt t; omega⟩ - Real.log (∑ b, Real.exp (y b)) : ℝ) : EReal))
    (hD : D = ((Spec.tgt t - Spec.bin t : ℝ) : EReal)) (hB : B = BitVec.ofBool b) :
    (-S1 * (1 - D) + -S2 * D) * FloatOps.uitofp (F := Ideal) FTy.f32 B = ((if b = true then Spec.dfl y t else 0 : ℝ) : EReal) := by
  rw [h1, h2, hD, hB, Take.uitofp_ofBool, Lift.one_coe]
  simp only [Lift.neg_coe, Lift.sub_coe, Lift.mul_coe, Lift.add_coe]
  refine congrArg Real.toEReal ?_
  cases b
  · simp
  · simp only [if_true]
    unfold Spec.dfl
    ring

section
variable (a : Fin 20000 → Fin 4 → ℝ) (g : Fin 100 → Fin 4 → ℝ) (p : Fin 20000 → Fin 80 → ℝ)
  (x : Fin 20000 → Fin 4 → Fin 16 → ℝ) (lab : Fin 100 → BitVec 32) (th : Fin 100 → ℝ)

/-- The cross entropies add up to the loss's first numerator. -/
theorem cls_sum : (∑ n, ∑ c : Fin 80, (Spec.base (p n c) - pull (Spec.matched a g th n) (fun m => Spec.iou (a n) (g m)) lab (p n c) c.val))
    = ∑ n, (∑ c, Spec.base (p n c)) - ∑ n, Spec.score a g th n * Spec.labelLogit a g p lab th n := by
  rw [← Finset.sum_sub_distrib]
  refine Finset.sum_congr rfl fun n _ => ?_
  rw [Finset.sum_sub_distrib]
  unfold pull Spec.score Spec.labelLogit
  rw [← Finset.mul_sum]
  cases Spec.matched a g th n with
  | none => simp
  | some m => rfl

/-- The focal losses add up to the loss's second numerator. -/
theorem reg_sum : (∑ n, ∑ s : Fin 4, (if (Spec.matched a g th n).isSome = true
      then Spec.dfl (x n s) (Spec.side (a n) (g (Words.pick (by norm_num) (Spec.matched a g th n))) s) else 0))
    = ∑ n, Spec.regTerm a g x th n := by
  refine Finset.sum_congr rfl fun n _ => ?_
  unfold Spec.regTerm
  cases Spec.matched a g th n with
  | none => simp
  | some m => rfl
end

end Cert.Terms
end
-- ==== Proof.Reference.Loss.lean ====
/- The reference's value is the loss. -/
module

public import proofs.«01_k».proof.Proof.Reference.Targets
public import proofs.«01_k».proof.Proof.Math.Terms

@[expose] public section

set_option maxRecDepth 16384
noncomputable section

namespace Cert.ReferenceIdeal.Ref

open Idealize.ShloMosaic Idealize.ShloMosaic.TcCoe Cert.ReferenceIdeal Cert.ReferenceIdeal.Value

variable {V : Valuation τ sig (Elt Ideal)} {p : Fin 20000 → Fin 80 → ℝ} {x : Fin 20000 → Fin 4 → Fin 16 → ℝ}
  {a : Fin 20000 → Fin 4 → ℝ} {g : Fin 100 → Fin 4 → ℝ} {lab : Fin 100 → BitVec 32} (h : Args V p x a g lab)
include h

/-- The reference's result. -/
theorem v229 : (val5 V (Proc.devRef .tc main_v229) : FVec Ideal S8x128 .f32) = fun _ => ((Spec.loss a g p x lab (th a g) : ℝ) : EReal) := by
  refine (val5_main_v229 V).trans ?_
  funext i
  clean_types
  dsimp only [id]
  pointwise
  have hc := fun (n : Fin 20000) (c : Fin 80) => Terms.cls (p n c) (Spec.matched a g (th a g) n) (fun m => Spec.iou (a n) (g m)) lab c.val
    (h.cls n c) (v119 h n) (label h n) (overlap h n) (v129 h n)
  have hr := fun (n : Fin 20000) (s : Fin 4) => Terms.reg (x n s) (Spec.side (a n) (g (own a g n)) s) (Spec.matched a g (th a g) n).isSome
    (logp h (res_main_call14_v5 V) n s _ _ (call14_v5 h n s)) (logp h (res_main_call15_v5 V) n s _ _ (call15_v5 h n s)) (v205 h n s) (v129 h n)
  have hm : (max (Spec.count a g (th a g)) 1 : ℝ) ≠ 0 := ne_of_gt (lt_of_lt_of_le one_pos (le_max_right _ _))
  refine (congrArg₂ (fun u v : EReal => u + v)
    (congrArg₂ Ideal.div (Finset.sum_congr rfl fun n _ => Finset.sum_congr rfl fun c _ => hc n c) (v132 h))
    (congrArg₂ Ideal.div (Finset.sum_congr rfl fun n _ => Finset.sum_congr rfl fun s _ => hr n s)
      (congrArg₂ (fun u v : EReal => u * v) (v132 h) Lift.four))).trans ?_
  simp only [own, Lift.sum_coe, Lift.mul_coe]
  rw [Lift.div_coe _ _ hm, Lift.div_coe _ _ (mul_ne_zero hm (by norm_num)), Lift.add_coe, Terms.cls_sum, Terms.reg_sum]
  unfold Spec.loss
  rfl

end Cert.ReferenceIdeal.Ref
end
-- ==== Proof.Value.lean ====
/- Kernel and reference compute the same loss. -/
module

public import proofs.«01_k».proof.Defs
public import proofs.«01_k».proof.Proof.Pre
public import proofs.«01_k».proof.Proof.Kernel.Launch
public import proofs.«01_k».proof.Proof.Kernel.Operands
public import proofs.«01_k».proof.Proof.Kernel.Total
public import proofs.«01_k».proof.Proof.Reference.Loss

@[expose] public section

set_option maxRecDepth 16384
noncomputable section

namespace Cert.Value

open Cert.Chunks Idealize.ShloMosaic Idealize.ShloMosaic.TcCoe Idealize.SL.Sem Idealize.ShloMosaic.StableHlo
open Cert.KernelIdeal (S20000x80 S20000x4x16 S20000x4 S100x4 S100 S8x128)
open Cert.KernelIdeal.Kern (RealArgs)

/-! ## The arguments as real numbers -/

section
variable (m : (ℓ : Loc Cert.KernelIdeal.nD Cert.KernelIdeal.τ Cert.KernelIdeal.sig) → Buf (Elt Ideal) ℓ) (c : Dev Cert.KernelIdeal.nD)

abbrev a0 : FVec Ideal S20000x80 .f32 := m ((c.tc : Thread Cert.KernelIdeal.nD Cert.KernelIdeal.τ).loc Cert.KernelIdeal.main_arg0)
abbrev a1 : FVec Ideal S20000x4x16 .f32 := m ((c.tc : Thread Cert.KernelIdeal.nD Cert.KernelIdeal.τ).loc Cert.KernelIdeal.main_arg1)
abbrev a2 : FVec Ideal S20000x4 .f32 := m ((c.tc : Thread Cert.KernelIdeal.nD Cert.KernelIdeal.τ).loc Cert.KernelIdeal.main_arg2)
abbrev a3 : FVec Ideal S100x4 .f32 := m ((c.tc : Thread Cert.KernelIdeal.nD Cert.KernelIdeal.τ).loc Cert.KernelIdeal.main_arg3)
abbrev a4 : IVec S100 32 := m ((c.tc : Thread Cert.KernelIdeal.nD Cert.KernelIdeal.τ).loc Cert.KernelIdeal.main_arg4)

/-- Class logits. -/
def p : Fin 20000 → Fin 80 → ℝ := fun n k => (a0 m c (ix2 n k)).toReal
/-- Bin logits. -/
def x : Fin 20000 → Fin 4 → Fin 16 → ℝ := fun n s b => (a1 m c (ix3 n s b)).toReal
/-- Anchors. -/
def a : Fin 20000 → Fin 4 → ℝ := fun n s => (a2 m c (ix2 n s)).toReal
/-- Boxes. -/
def g : Fin 100 → Fin 4 → ℝ := fun k s => (a3 m c (ix2 k s)).toReal
/-- Labels. -/
def lab : Fin 100 → BitVec 32 := fun k => a4 m c (ix1 k)

/-- The loss of the arguments. -/
def loss : ℝ := Spec.loss (a m c) (g m c) (p m c) (x m c) (lab m c) (Cert.ReferenceIdeal.Ref.th (a m c) (g m c))

end

section
variable [Cert.KernelIdeal.Facts] [Cert.ReferenceIdeal.Facts] [Cert.Pre_finite_bounded_untied.Facts]
variable {m : (ℓ : Loc Cert.KernelIdeal.nD Cert.KernelIdeal.τ Cert.KernelIdeal.sig) → Buf (Elt Ideal) ℓ}
  (h : Pre_KernelIdeal_finite_bounded_untied m) (c : Dev Cert.KernelIdeal.nD)
include h

theorem realArgs : RealArgs (a0 m c) (a1 m c) (a2 m c) (a3 m c) (a4 m c) (p m c) (x m c) (a m c) (g m c) (lab m c) where
  cls n k := (Cert.Pre_finite_bounded_untied.cls_real _ _ _ _ _ (h c).1 n k).symm
  reg n s b := (Cert.Pre_finite_bounded_untied.reg_real _ _ _ _ _ (h c).2.1 n s b).symm
  anc n s := (Cert.Pre_finite_bounded_untied.anc_real _ _ _ _ _ (h c).2.2.1 n s).1.symm
  box k s := (Cert.Pre_finite_bounded_untied.box_real _ _ _ _ _ (h c).2.2.2.1 k s).1.symm
  lab _ := rfl

theorem anchors_bounded (n : Fin 20000) (s : Fin 4) : |a m c n s| ≤ 300000 :=
  (Cert.Pre_finite_bounded_untied.anc_real _ _ _ _ _ (h c).2.2.1 n s).2

theorem boxes_bounded (k : Fin 100) (s : Fin 4) : |g m c k s| ≤ 300000 :=
  (Cert.Pre_finite_bounded_untied.box_real _ _ _ _ _ (h c).2.2.2.1 k s).2

theorem nearest (k : Fin 100) : Nearest (fun n => Spec.d2 (a m c n) (g m c k)) (TopK.near (a m c) (g m c) k) :=
  TopK.nearest _ _ k fun j => Cert.Pre_finite_bounded_untied.untied _ _ _ _ _ (a m c) (g m c)
    (realArgs h c).anc (realArgs h c).box (h c).2.2.2.2 k j

/-- The kernel's result. -/
theorem kernel_run (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v17) = (fun _ => ((loss m c : ℝ) : EReal))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) := by
  refine (θ_run _ _ _).mono (fun r hr c => ⟨(hr c).1.trans ?_, (hr c).2⟩)
    (Cert.KernelIdeal.Kern.run m ρ _ _ _ _ _ _ fun c => Cert.KernelIdeal.Kern.bodyIn m c (p m c) (x m c) (a m c) (g m c) (lab m c)
      (fun k => TopK.near (a m c) (g m c) k) (realArgs h c) (anchors_bounded h c) (boxes_bounded h c) (nearest h c))
  have e := Cert.KernelIdeal.Kern.total_eq (a m c) (g m c) (p m c) (x m c) (lab m c) (fun k => TopK.near (a m c) (g m c) k)
    (fun k s => le_of_abs_le (boxes_bounded h c k s))
  exact congrArg (fun v : ℝ => fun _ => (v : EReal)) e

variable {m' : (ℓ : Loc Cert.ReferenceIdeal.nD Cert.ReferenceIdeal.τ Cert.ReferenceIdeal.sig) → Buf (Elt Ideal) ℓ}

/-- The reference's result. -/
theorem reference_value
    (e0 : m' ((c.tc : Thread Cert.ReferenceIdeal.nD Cert.ReferenceIdeal.τ).loc Cert.ReferenceIdeal.main_arg0) = a0 m c)
    (e1 : m' ((c.tc : Thread Cert.ReferenceIdeal.nD Cert.ReferenceIdeal.τ).loc Cert.ReferenceIdeal.main_arg1) = a1 m c)
    (e2 : m' ((c.tc : Thread Cert.ReferenceIdeal.nD Cert.ReferenceIdeal.τ).loc Cert.ReferenceIdeal.main_arg2) = a2 m c)
    (e3 : m' ((c.tc : Thread Cert.ReferenceIdeal.nD Cert.ReferenceIdeal.τ).loc Cert.ReferenceIdeal.main_arg3) = a3 m c)
    (e4 : m' ((c.tc : Thread Cert.ReferenceIdeal.nD Cert.ReferenceIdeal.τ).loc Cert.ReferenceIdeal.main_arg4) = a4 m c) :
    (Cert.ReferenceIdeal.Value.val5 (launchContents m' c) (Proc.devRef .tc Cert.ReferenceIdeal.main_v229) : FVec Ideal S8x128 .f32)
      = fun _ => ((loss m c : ℝ) : EReal) :=
  Cert.ReferenceIdeal.Ref.v229
    { cls := fun n k => (congrFun e0 (ix2 n k)).trans ((realArgs h c).cls n k)
      reg := fun n s b => (congrFun e1 (ix3 n s b)).trans ((realArgs h c).reg n s b)
      anc := fun n s => (congrFun e2 (ix2 n s)).trans ((realArgs h c).anc n s)
      box := fun k s => (congrFun e3 (ix2 k s)).trans ((realArgs h c).box k s)
      lab := fun k => (congrFun e4 (ix1 k)).trans ((realArgs h c).lab k) }

end

/-- Kernel and reference end with equal results. -/
theorem algebraic [Cert.KernelIdeal.Facts] [Cert.ReferenceIdeal.Facts] [Cert.Pre_finite_bounded_untied.Facts] :
    algebraic_KernelIdeal_ReferenceIdeal_pre_finite_bounded_untied := fun m ρ m' ρ' h hm =>
  ⟨fun c _ => ((loss m c : ℝ) : EReal), kernel_run h ρ,
    (θ_run _ _ _).mono (fun r hr c => ⟨(hr c).1.trans ((Cert.ReferenceIdeal.Value.val5_main_v229 (launchContents m' c)).symm.trans
      (reference_value h c (hm c).1 (hm c).2.1 (hm c).2.2.1 (hm c).2.2.2.1 (hm c).2.2.2.2)), (hr c).2⟩)
      (Cert.ReferenceIdeal.Value.run m' ρ')⟩

end Cert.Value
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Frame.KernelFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Frame.KernelIdealFrame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference terminates, keeps its arguments and leaves no semaphore raised. -/
theorem reference_frame : quiescent_ReferenceIdeal (hReferenceIdeal := Cert.ReferenceIdeal.Gen.facts) :=
  fun m ρ _ => (θ_run _ _ _).mono (fun r h =>
    ⟨fun c => (h c).2, Idealize.ShloMosaic.sem_eq_zero_of_no_sems (by decide) r.2⟩) (Cert.ReferenceIdeal.Value.run m ρ)

/-- Everything claimed. -/
theorem claim : Cert.Claim := ⟨Cert.Kernel.Gen.facts, Cert.KernelIdeal.Gen.facts, Cert.ReferenceIdeal.Gen.facts, Cert.Pre_finite_bounded_untied.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  IdealRules.named_const.statement Cert.KernelIdeal.κ "cls_pad" .f32 0xC2C80000#32 ⊥ rfl,
  @Cert.Value.algebraic Cert.KernelIdeal.Gen.facts Cert.ReferenceIdeal.Gen.facts Cert.Pre_finite_bounded_untied.facts⟩

end Cert.Proof

end
